-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_no_bias [hPre_finite_no_bias : Cert.Pre_finite_no_bias.Facts] (m : (ℓ : Loc Cert.KernelIdeal.nD Cert.KernelIdeal.τ Cert.KernelIdeal.sig) → Buf (Elt Ideal) ℓ) : Prop :=
  ∀ c : Dev Cert.KernelIdeal.nD,
    (Cert.Pre_finite_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_no_bias [hPre_finite_no_bias : Cert.Pre_finite_no_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_no_bias [hKernelIdeal : Cert.KernelIdeal.Facts] [hPre_finite_no_bias : Cert.Pre_finite_no_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_no_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_no_bias [hReferenceIdeal : Cert.ReferenceIdeal.Facts] [hPre_finite_no_bias : Cert.Pre_finite_no_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_no_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_no_bias [hKernelIdeal : Cert.KernelIdeal.Facts] [hReferenceIdeal : Cert.ReferenceIdeal.Facts] [hPre_finite_no_bias : Cert.Pre_finite_no_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_no_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_no_bias : Cert.Pre_finite_no_bias.Facts),
    quiescent_Kernel (hKernel := hKernel)
    ∧ quiescent_KernelIdeal (hKernelIdeal := hKernelIdeal)
    ∧ quiescent_KernelIdeal_pre_finite_no_bias (hKernelIdeal := hKernelIdeal) (hPre_finite_no_bias := hPre_finite_no_bias)
    ∧ quiescent_ReferenceIdeal (hReferenceIdeal := hReferenceIdeal)
    ∧ quiescent_ReferenceIdeal_pre_finite_no_bias (hReferenceIdeal := hReferenceIdeal) (hPre_finite_no_bias := hPre_finite_no_bias)
    ∧ preserves_Kernel_KernelIdeal
    ∧ algebraic_KernelIdeal_ReferenceIdeal_pre_finite_no_bias (hKernelIdeal := hKernelIdeal) (hReferenceIdeal := hReferenceIdeal) (hPre_finite_no_bias := hPre_finite_no_bias)
-- ==== Pre_finite_no_bias.lean ====
abbrev S8x64 : Shape := ⟨2, ![8, 64]⟩
abbrev S8x1000000 : Shape := ⟨2, ![8, 1000000]⟩
abbrev S1000000x64 : Shape := ⟨2, ![1000000, 64]⟩
abbrev S1000000 : Shape := ⟨1, ![1000000]⟩
abbrev S_ : Shape := ⟨0, ![]⟩

class Facts : Prop where
  bcast_S_S8x64 : S_.BroadcastsInDim S8x64 (![] : Fin 0 → Fin S8x64.rank)
  reducesTo_S8x64_S_d0_1 : S8x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : FVec F S8x64 .f32) (main_arg1 : IVec S8x1000000 32) (main_arg2 : FVec F S1000000x64 .f32) (main_arg3 : FVec F S1000000 .f32) : IVec S_ 1 :=
  let main_v0 : FVec F S8x64 .f32 := Host.absf main_arg0
  let main_cst : FVec F S_ .f32 := constant S_ .f32 0x7F800000#32
  let main_v1 : FVec F S8x64 .f32 := broadcastInDim S8x64 ![] bcast_S_S8x64 main_cst
  let main_v2 : IVec S8x64 1 := cmpf .olt main_v0 main_v1
  let main_c : IVec S_ 1 := constantI S_ 1 1#1
  let main_v3 : IVec S_ 1 := (fun x v => Host.reduce IntOp.andi x v reducesTo_S8x64_S_d0_1 h_S_) main_v2 main_c
  let main_v4 : FVec F S1000000x64 .f32 := Host.absf main_arg2
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_cst_2 : FVec F S_ .f32 := constant S_ .f32 0x00000000#32
  let main_v9 : FVec F S1000000 .f32 := broadcastInDim S1000000 ![] bcast_S_S1000000 main_cst_2
  let main_v10 : IVec S1000000 1 := cmpf .oeq main_arg3 main_v9
  let main_c_3 : IVec S_ 1 := constantI S_ 1 1#1
  let main_v11 : IVec S_ 1 := (fun x v => Host.reduce IntOp.andi x v reducesTo_S1000000_S_d0 h_S_) main_v10 main_c_3
  let main_v12 : IVec S_ 1 := andi main_v8 main_v11
  main_v12
-- ==== Kernel.lean ====
abbrev S8x64 : Shape := ⟨2, ![8, 64]⟩
abbrev S8x1000000 : Shape := ⟨2, ![8, 1000000]⟩
abbrev S1000000x64 : Shape := ⟨2, ![1000000, 64]⟩
abbrev S1000000 : Shape := ⟨1, ![1000000]⟩
abbrev S8x1000x1000 : Shape := ⟨3, ![8, 1000, 1000]⟩
abbrev S8x8x1000 : Shape := ⟨3, ![8, 8, 1000]⟩
abbrev S8000x64 : Shape := ⟨2, ![8000, 64]⟩
abbrev S125x8x8x1000 : Shape := ⟨4, ![125, 8, 8, 1000]⟩
abbrev S8x128 : Shape := ⟨2, ![8, 128]⟩
abbrev S1000x64 : Shape := ⟨2, ![1000, 64]⟩
abbrev S8x1000 : Shape := ⟨2, ![8, 1000]⟩
abbrev S8x1x1000 : Shape := ⟨3, ![8, 1, 1000]⟩
abbrev S1x8x1x1000 : Shape := ⟨4, ![1, 8, 1, 1000]⟩
abbrev S8 : Shape := ⟨1, ![8]⟩
abbrev S8x1 : Shape := ⟨2, ![8, 1]⟩

abbrev nBuf : Space → Nat
  | .hbm => 7
  | .vmem => 11
  | .smem => 0
  | _ => 0

abbrev bufTy : (tb : Table) → Fin (tcTables nBuf tb) → BufTy
  | .hbm, ⟨0, _⟩ => ⟨S8x64, .f32⟩
  | .hbm, ⟨1, _⟩ => ⟨S8x1000000, .i32⟩
  | .hbm, ⟨2, _⟩ => ⟨S1000000x64, .f32⟩
  | .hbm, ⟨3, _⟩ => ⟨S1000000, .f32⟩
  | .hbm, ⟨4, _⟩ => ⟨S8x1000x1000, .i32⟩
  | .hbm, ⟨5, _⟩ => ⟨S8x1000x1000, .f32⟩
  | .hbm, ⟨6, _⟩ => ⟨S8x1000000, .f32⟩
  | .local _ .vmem, ⟨0, _⟩ => ⟨S8x64, .f32⟩
  | .local _ .vmem, ⟨1, _⟩ => ⟨S8x8x1000, .i32⟩
  | .local _ .vmem, ⟨2, _⟩ => ⟨S8x8x1000, .i32⟩
  | .local _ .vmem, ⟨3, _⟩ => ⟨S8000x64, .f32⟩
  | .local _ .vmem, ⟨4, _⟩ => ⟨S8000x64, .f32⟩
  | .local _ .vmem, ⟨5, _⟩ => ⟨S8x8x1000, .f32⟩
  | .local _ .vmem, ⟨6, _⟩ => ⟨S8x8x1000, .f32⟩
  | .local _ .vmem, ⟨7, _⟩ => ⟨S125x8x8x1000, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 125], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 4 → Nat :=
  let arg1 : BitVec 32 := BitVec.ofNat 32 (i 1).val
  let v20 : Index := Scalar.indexCast arg1
  let c0_12 : Index := 0#32
  let c0_13 : Index := 0#32
  let c0_14 : Index := 0#32
  ![v20.toNat, 0, 0, 0]
def k0_off2 (i : grid0.Coords) : Fin 4 → Nat :=
  let arg1 : BitVec 32 := BitVec.ofNat 32 (i 1).val
  let v33 : Index := Scalar.indexCast arg1
  let c0_21 : Index := 0#32
  let c1_22 : Index := 1#32
  let c0_23 : Index := 0#32
  ![v33.toNat, 0, 1, 0]
def k0_off3 (i : grid0.Coords) : Fin 4 → Nat :=
  let arg1 : BitVec 32 := BitVec.ofNat 32 (i 1).val
  let v46 : Index := Scalar.indexCast arg1
  let c0_30 : Index := 0#32
  let c2_31 : Index := 2#32
  let c0_32 : Index := 0#32
  ![v46.toNat, 0, 2, 0]
def k0_off4 (i : grid0.Coords) : Fin 4 → Nat :=
  let arg1 : BitVec 32 := BitVec.ofNat 32 (i 1).val
  let v59 : Index := Scalar.indexCast arg1
  let c0_39 : Index := 0#32
  let c3_40 : Index := 3#32
  let c0_41 : Index := 0#32
  ![v59.toNat, 0, 3, 0]
def k0_off5 (i : grid0.Coords) : Fin 4 → Nat :=
  let arg1 : BitVec 32 := BitVec.ofNat 32 (i 1).val
  let v72 : Index := Scalar.indexCast arg1
  let c0_48 : Index := 0#32
  let c4_49 : Index := 4#32
  let c0_50 : Index := 0#32
  ![v72.toNat, 0, 4, 0]
def k0_off6 (i : grid0.Coords) : Fin 4 → Nat :=
  let arg1 : BitVec 32 := BitVec.ofNat 32 (i 1).val
  let v85 : Index := Scalar.indexCast arg1
  let c0_57 : Index := 0#32
  let c5_58 : Index := 5#32
  let c0_59 : Index := 0#32
  ![v85.toNat, 0, 5, 0]
def k0_off7 (i : grid0.Coords) : Fin 4 → Nat :=
  let arg1 : BitVec 32 := BitVec.ofNat 32 (i 1).val
  let v98 : Index := Scalar.indexCast arg1
  let c0_66 : Index := 0#32
  let c6_67 : Index := 6#32
  let c0_68 : Index := 0#32
  ![v98.toNat, 0, 6, 0]
def k0_off8 (i : grid0.Coords) : Fin 4 → Nat :=
  let arg1 : BitVec 32 := BitVec.ofNat 32 (i 1).val
  let v111 : Index := Scalar.indexCast arg1
  let c0_75 : Index := 0#32
  let c7_76 : Index := 7#32
  let c0_77 : Index := 0#32
  ![v111.toNat, 0, 7, 0]
def k0_cond4 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off9 (i : grid0.Coords) : Fin 4 → Nat :=
  let arg1 : BitVec 32 := BitVec.ofNat 32 (i 1).val
  let v7 : Index := Scalar.indexCast arg1
  let c0_3 : Index := 0#32
  let c0_4 : Index := 0#32
  let c0_5 : Index := 0#32
  ![v7.toNat, 0, 0, 0]
def k0_off10 (i : grid0.Coords) : Fin 4 → Nat :=
  let arg1 : BitVec 32 := BitVec.ofNat 32 (i 1).val
  let v15 : Index := Scalar.indexCast arg1
  let c0_9 : Index := 0#32
  let c1 : Index := 1#32
  let c0_10 : Index := 0#32
  ![v15.toNat, 0, 1, 0]
def k0_off11 (i : grid0.Coords) : Fin 4 → Nat :=
  let arg1 : BitVec 32 := BitVec.ofNat 32 (i 1).val
  let v23 : Index := Scalar.indexCast arg1
  let c0_14 : Index := 0#32
  let c2 : Index := 2#32
  let c0_15 : Index := 0#32
  ![v23.toNat, 0, 2, 0]
def k0_off12 (i : grid0.Coords) : Fin 4 → Nat :=
  let arg1 : BitVec 32 := BitVec.ofNat 32 (i 1).val
  let v31 : Index := Scalar.indexCast arg1
  let c0_19 : Index := 0#32
  let c3 : Index := 3#32
  let c0_20 : Index := 0#32
  ![v31.toNat, 0, 3, 0]
def k0_off13 (i : grid0.Coords) : Fin 4 → Nat :=
  let arg1 : BitVec 32 := BitVec.ofNat 32 (i 1).val
  let v39 : Index := Scalar.indexCast arg1
  let c0_24 : Index := 0#32
  let c4 : Index := 4#32
  let c0_25 : Index := 0#32
  ![v39.toNat, 0, 4, 0]
def k0_off14 (i : grid0.Coords) : Fin 4 → Nat :=
  let arg1 : BitVec 32 := BitVec.ofNat 32 (i 1).val
  let v47 : Index := Scalar.indexCast arg1
  let c0_29 : Index := 0#32
  let c5 : Index := 5#32
  let c0_30 : Index := 0#32
  ![v47.toNat, 0, 5, 0]
def k0_off15 (i : grid0.Coords) : Fin 4 → Nat :=
  let arg1 : BitVec 32 := BitVec.ofNat 32 (i 1).val
  let v55 : Index := Scalar.indexCast arg1
  let c0_34 : Index := 0#32
  let c6 : Index := 6#32
  let c0_35 : Index := 0#32
  ![v55.toNat, 0, 6, 0]
def k0_off16 (i : grid0.Coords) : Fin 4 → Nat :=
  let arg1 : BitVec 32 := BitVec.ofNat 32 (i 1).val
  let v63 : Index := Scalar.indexCast arg1
  let c0_39 : Index := 0#32
  let c7 : Index := 7#32
  let c0_40 : Index := 0#32
  ![v63.toNat, 0, 7, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8x8x1000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x8x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x64 : Shape := ⟨2, ![8, 64]⟩
abbrev S8x1000000 : Shape := ⟨2, ![8, 1000000]⟩
abbrev S1000000x64 : Shape := ⟨2, ![1000000, 64]⟩
abbrev S1000000 : Shape := ⟨1, ![1000000]⟩
abbrev S64x1000000 : Shape := ⟨2, ![64, 1000000]⟩
abbrev S1x1000000 : Shape := ⟨2, ![1, 1000000]⟩
abbrev S_ : Shape := ⟨0, ![]⟩
abbrev S8 : Shape := ⟨1, ![8]⟩
abbrev S8x1 : Shape := ⟨2, ![8, 1]⟩

abbrev nBuf : Space → Nat
  | .hbm => 36
  | .vmem => 0
  | .smem => 0
  | _ => 0

abbrev bufTy : (tb : Table) → Fin (tcTables nBuf tb) → BufTy
  | .hbm, ⟨0, _⟩ => ⟨S8x64, .f32⟩
  | .hbm, ⟨1, _⟩ => ⟨S8x1000000, .i32⟩
  | .hbm, ⟨2, _⟩ => ⟨S1000000x64, .f32⟩
  | .hbm, ⟨3, _⟩ => ⟨S1000000, .f32⟩
  | .hbm, ⟨4, _⟩ => ⟨S64x1000000, .f32⟩
  | .hbm, ⟨5, _⟩ => ⟨S8x1000000, .f32⟩
  | .hbm, ⟨6, _⟩ => ⟨S1x1000000, .f32⟩
  | .hbm, ⟨7, _⟩ => ⟨S8x1000000, .f32⟩
  | .hbm, ⟨8, _⟩ => ⟨S8x1000000, .f32⟩
  | .hbm, ⟨9, _⟩ => ⟨S_, .i32⟩
  | .hbm, ⟨10, _⟩ => ⟨S8x1000000, .i32⟩
  | .hbm, ⟨11, _⟩ => ⟨S8x1000000, .i1⟩
  | .hbm, ⟨12, _⟩ => ⟨S_, .f32⟩
  | .hbm, ⟨13, _⟩ => ⟨S8x1000000, .f32⟩
  | .hbm, ⟨14, _⟩ => ⟨S8x1000000, .f32⟩
  | .hbm, ⟨15, _⟩ => ⟨S_, .f32⟩
  | .hbm, ⟨16, _⟩ => ⟨S8, .f32⟩
  | .hbm, ⟨17, _⟩ => ⟨S8x1, .f32⟩
  | .hbm, ⟨18, _⟩ => ⟨S8x1, .f32⟩
  | .hbm, ⟨19, _⟩ => ⟨S_, .f32⟩
  | .hbm, ⟨20, _⟩ => ⟨S8x1, .f32⟩
  | .hbm, ⟨21, _⟩ => ⟨S8x1, .i1⟩
  | .hbm, ⟨22, _⟩ => ⟨S_, .f32⟩
  | .hbm, ⟨23, _⟩ => ⟨S_, .f32⟩
  | .hbm, ⟨24, _⟩ => ⟨S8x1, .f32⟩
  | .hbm, ⟨25, _⟩ => ⟨S8x1, .f32⟩
  | .hbm, ⟨26, _⟩ => ⟨S8x1000000, .f32⟩
  | .hbm, ⟨27, _⟩ => ⟨S8x1000000, .f32⟩
  | .hbm, ⟨28, _⟩ => ⟨S8x1000000, .f32⟩
  | .hbm, ⟨29, _⟩ => ⟨S_, .f32⟩
  | .hbm, ⟨30, _⟩ => ⟨S8, .f32⟩
  | .hbm, ⟨31, _⟩ => ⟨S8x1, .f32⟩
  | .hbm, ⟨32, _⟩ => ⟨S8x1, .f32⟩
  | .hbm, ⟨33, _⟩ => ⟨S8x1, .f32⟩
  | .hbm, ⟨34, _⟩ => ⟨S8x1000000, .f32⟩
  | .hbm, ⟨35, _⟩ => ⟨S8x1000000, .f32⟩
  | _, _ => ⟨S8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_call0_v0 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_call1_v0 : Ref sig .tc := ⟨.hbm, 23, rfl⟩
abbrev main_call1_v1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Proof.Ideal.Launch.lean ====
module

public import proofs.«01_k».proof.Proof.Gen.KernelIdeal.Skeleton
public import proofs.«01_k».proof.Proof.Gen.KernelIdeal.Frame

@[expose] public section

/-!
  The set-up of the idealised kernel's body: which of its conditionals are taken at which point of the
  2 × 125 grid, the buffers the body is handed at a point, and the ownership of the four scratch buffers.
-/

set_option maxRecDepth 16384

noncomputable section

namespace Cert.LogSoftmax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditionals -/

/-- The point belongs to the first sweep, in which the logits are computed. -/
abbrev InSweep (i : grid0.Coords) : Prop := k0_cond1 i = 1#1
/-- The point's tile is the first one, where the running maximum and sum are set up. -/
abbrev AtFirst (i : grid0.Coords) : Prop :=
  (Scalar.cmpi .ne (Scalar.extui (Scalar.cmpi .eq (BitVec.ofNat 32 (i 1).val) 0#32)) 0#32) = 1#1
/-- The point's tile is the last one, where the normaliser is formed. -/
abbrev AtLast (i : grid0.Coords) : Prop :=
  (Scalar.cmpi .ne (Scalar.extui (Scalar.cmpi .eq (BitVec.ofNat 32 (i 1).val) 124#32)) 0#32) = 1#1
/-- The point belongs to the second sweep, in which the result is written. -/
abbrev InWrite (i : grid0.Coords) : Prop := k0_cond4 i = 1#1

/-- The grid has 250 points. -/
theorem point_lt (t : Fin cfg0.N) : t.val < 250 := Nat.lt_of_lt_of_eq t.isLt N_0

/-- The sweep a point belongs to. -/
theorem coord_sweep (t : Fin cfg0.N) : (grid0.coords t 0).val = t.val / 125 % 2 :=
  Pipeline.Grid.coords_val t 0 (by decide) rfl

/-- The tile a point works on. -/
theorem coord_tile (t : Fin cfg0.N) : (grid0.coords t 1).val = t.val % 125 := by
  have e : (grid0.coords t 1).val = t.val / 1 % 125 := Pipeline.Grid.coords_val t 1 (by decide) rfl
  rw [e, Nat.div_one]

/-- The first sweep is the first 125 points. -/
theorem inSweep_iff (t : Fin cfg0.N) : InSweep (grid0.coords t) ↔ t.val < 125 := by
  have ht := point_lt t
  have e0 := coord_sweep t
  simp only [InSweep, k0_cond1, e0]
  word_cmp

/-- The set-up happens where the point's number is a multiple of 125. -/
theorem atFirst_iff (t : Fin cfg0.N) : AtFirst (grid0.coords t) ↔ t.val % 125 = 0 := by
  have ht := point_lt t
  have e1 := coord_tile t
  simp only [AtFirst, e1]
  word_cmp

/-- The normaliser is formed where the point's number is 124 modulo 125. -/
theorem atLast_iff (t : Fin cfg0.N) : AtLast (grid0.coords t) ↔ t.val % 125 = 124 := by
  have ht := point_lt t
  have e1 := coord_tile t
  simp only [AtLast, e1]
  word_cmp

/-- The second sweep is the points from 125 on. -/
theorem inWrite_iff (t : Fin cfg0.N) : InWrite (grid0.coords t) ↔ 125 ≤ t.val := by
  have ht := point_lt t
  have e0 := coord_sweep t
  simp only [InWrite, k0_cond4, e0]
  word_cmp

/-! ## The buffers a point works on -/

/-- The staging buffer of the rows `x` at a point, -/
abbrev stX (t : Fin cfg0.N) : Memref sig .tc .vmem S8x64 .f32 := win0_0.stage (cfg0.slots t 0)
/-- of the tile of available actions, -/
abbrev stA (t : Fin cfg0.N) : Memref sig .tc .vmem S8x8x1000 .i32 := win0_1.stage (cfg0.slots t 1)
/-- of the tile of the weights, -/
abbrev stW (t : Fin cfg0.N) : Memref sig .tc .vmem S8000x64 .f32 := win0_2.stage (cfg0.slots t 2)
/-- and of the result. -/
abbrev stO (t : Fin cfg0.N) : Memref sig .tc .vmem S8x8x1000 .f32 := win0_3.stage (cfg0.slots t 3)

/-- The store of all logits, -/
abbrev mrBuf : Memref sig .tc .vmem S125x8x8x1000 .f32 := Memref.whole cc0_scratch0
/-- the running maximum, -/
abbrev mrMax : Memref sig .tc .vmem S8x128 .f32 := Memref.whole cc0_scratch1
/-- the running sum, -/
abbrev mrSum : Memref sig .tc .vmem S8x128 .f32 := Memref.whole cc0_scratch2
/-- and the normaliser. -/
abbrev mrLse : Memref sig .tc .vmem S8x128 .f32 := Memref.whole cc0_scratch3

/-- What the region starts with: the four scratch buffers at any contents, and the random generator's register. -/
theorem start_eq (c : Dev nD) :
    (Pipeline.ΦA spec0 c : sProp 𝕄)
      = iprop(iprop((∃ d, owns (c : Thread nD τ) mrBuf fullShare d) ∗ (∃ d, owns (c : Thread nD τ) mrMax fullShare d)
          ∗ (∃ d, owns (c : Thread nD τ) mrSum fullShare d) ∗ (∃ d, owns (c : Thread nD τ) mrLse fullShare d)) ∗ (∃ r, prngReg c r)) := by
  unfold Pipeline.ΦA
  rw [scopedRest0_eq]
  simp only [mrBuf, mrMax, mrSum, mrLse, owns_whole]
  rfl

end Cert.LogSoftmax

end
-- ==== Proof.Ideal.Step.lean ====
module

public import proofs.«01_k».proof.Proof.Ideal.Launch
public import Idealize.ShloMosaic.Lib.Pipeline.ValueKit
public import Idealize.ShloMosaic.Lib.Pointwise
public import Idealize.ShloMosaic.Lib.WholeRead
public import Idealize.ShloMosaic.Lib.WritesUnit

@[expose] public section

/-!
  What the body computes at one grid point, as functions of the blocks it is handed and of the scratch
  buffers: the tile's logits, the step of the running maximum and of the running sum, and the output
  block. Then the lemmas that bring the loads and stores of the body to these functions.
-/

set_option maxRecDepth 16384

noncomputable section

namespace Cert.LogSoftmax

open Cert.KernelIdeal Cert.KernelIdeal.Gen
open Idealize.ShloMosaic Idealize.ShloMosaic.TcCoe Idealize.ShloMosaic.Tactic
open Idealize.ShloMosaic.Rounds

variable {F : FTy → Type} [FloatOps F]

/-! ## The functions -/

/-- Rows `1000 k … 1000 k + 999` of the weight tile. -/
def wRows (x2 : Vec F S8000x64 .f32) (k : Fin 8) : Vec F S1000x64 .f32 :=
  fun y => x2 (ix2 ⟨1000 * k.val + (y 0).val, by have h0 : (y 0).val < 1000 := (y 0).isLt; have := k.isLt; show _ < 8000; omega⟩ (y 1))

/-- Row `k` of each of the eight slabs of the availability tile. -/
def aRow (x1 : Vec F S8x8x1000 .i32) (k : Fin 8) : Vec F S8x1x1000 .i32 := fun y => x1 (ix3 (y 0) k (y 2))

/-- The logits of row `k` of the tile: the product with the weights, masked where the action is not available. -/
def logits (x0 : Vec F S8x64 .f32) (x1 : Vec F S8x8x1000 .i32) (x2 : Vec F S8000x64 .f32) (k : Fin 8) : FVec F S8x1000 .f32 :=
  k0_pay11 (k0_pay6 x0) (wRows x2 k) (aRow x1 k)

/-- The first column of a buffer that holds one number per row, repeated along the row. -/
def col (v : Vec F S8x128 .f32) : Vec F S8x1 .f32 := fun y => v (ix2 (y 0) 0)

/-- The running maximum after the tile, as a column. -/
def newMax (x0 : Vec F S8x64 .f32) (x1 : Vec F S8x8x1000 .i32) (x2 : Vec F S8000x64 .f32) (mc : Vec F S8x1 .f32) : FVec F S8x1 .f32 :=
  k0_pay24 (k0_pay6 x0) (logits x0 x1 x2 0) (logits x0 x1 x2 1) (logits x0 x1 x2 2) (logits x0 x1 x2 3) (logits x0 x1 x2 4)
    (logits x0 x1 x2 5) (logits x0 x1 x2 6) (wRows x2 7) (aRow x1 7) mc

/-- The running sum after the tile, repeated along the row. -/
def newSum (x0 : Vec F S8x64 .f32) (x1 : Vec F S8x8x1000 .i32) (x2 : Vec F S8000x64 .f32) (mc sc : Vec F S8x1 .f32) : FVec F S8x128 .f32 :=
  k0_pay29 (logits x0 x1 x2 3) (logits x0 x1 x2 4) (logits x0 x1 x2 5) (logits x0 x1 x2 6) (logits x0 x1 x2 7) mc
    (newMax x0 x1 x2 mc)
    (k0_pay25 (k0_pay6 x0) (logits x0 x1 x2 0) (logits x0 x1 x2 1) (logits x0 x1 x2 2) (logits x0 x1 x2 3) (logits x0 x1 x2 4)
      (logits x0 x1 x2 5) (logits x0 x1 x2 6) (wRows x2 7) (aRow x1 7) mc)
    (k0_pay26 (k0_pay6 x0) (logits x0 x1 x2 0) (logits x0 x1 x2 1) (logits x0 x1 x2 2) (logits x0 x1 x2 3) (logits x0 x1 x2 4)
      (logits x0 x1 x2 5) (logits x0 x1 x2 6) (wRows x2 7) (aRow x1 7) mc)
    (k0_pay27 (k0_pay6 x0) (logits x0 x1 x2 0) (logits x0 x1 x2 1) (logits x0 x1 x2 2) (logits x0 x1 x2 3) (logits x0 x1 x2 4)
      (logits x0 x1 x2 5) (logits x0 x1 x2 6) (wRows x2 7) (aRow x1 7) mc) sc

/-- The buffer of the running maximum after the tile. -/
def maxStep (x0 : Vec F S8x64 .f32) (x1 : Vec F S8x8x1000 .i32) (x2 : Vec F S8000x64 .f32) (mx : Vec F S8x128 .f32) : Vec F S8x128 .f32 :=
  k0_pay28 (newMax x0 x1 x2 (col mx))

/-- The buffer of the running sum after the tile. -/
def sumStep (x0 : Vec F S8x64 .f32) (x1 : Vec F S8x8x1000 .i32) (x2 : Vec F S8000x64 .f32) (mx sm : Vec F S8x128 .f32) : Vec F S8x128 .f32 :=
  k0_pay1 (newSum x0 x1 x2 (col mx) (col sm))

/-- The store of all logits after the tile `j` has been entered into it. -/
def bufStep (j : Fin 125) (L : Fin 8 → FVec F S8x1000 .f32) (b : Vec F S125x8x8x1000 .f32) : Vec F S125x8x8x1000 .f32 :=
  fun y => if (y 0).val = j.val then L (y 2) (ix2 (y 1) (y 3)) else b y

/-- Row `k` of tile `j` of the store of all logits. -/
def slot (b : Vec F S125x8x8x1000 .f32) (j : Fin 125) (k : Fin 8) : Vec F S1x8x1x1000 .f32 := fun y => b (ix4 j (y 1) k (y 3))

/-- The output block of tile `j`: its logits minus the normaliser. -/
def outOf (b : Vec F S125x8x8x1000 .f32) (ls : Vec F S8x128 .f32) (j : Fin 125) : Vec F S8x8x1000 .f32 :=
  fun y => k0_pay38 (col ls) (slot b j (y 1)) (ix2 (y 0) (y 2))

/-! ## Loads -/

section Loads

variable {κ : Kind} {sp : Space}

/-- The load of rows `1000 k …` of the weight tile. -/
theorem load_w {m : Memref sig κ sp S8000x64 .f32} (h : m.IsWhole) (x2 : Vec F S8000x64 .f32) (k : Fin 8) (off : Fin 2 → ℕ)
    (e : off = ![1000 * k.val, 0]) (inb : ∀ a, off a + S1000x64.size a ≤ S8000x64.size a) :
    View.readAt (Elt F) m.view (Rect.unit (s := S8000x64) off S1000x64.size inb).toLoadRect (h.unread x2) = wRows x2 k := by
  subst e
  funext y
  rw [h.readAt_unread]
  refine congrArg x2 (funext fun a => Fin.ext ?_)
  fin_cases a
  · show 1000 * k.val + 1 * (y 0).val = 1000 * k.val + (y 0).val
    omega
  · show 0 + 1 * (y 1).val = (y 1).val
    omega

/-- The load of row `k` of the availability tile. -/
theorem load_a {m : Memref sig κ sp S8x8x1000 .i32} (h : m.IsWhole) (x1 : Vec F S8x8x1000 .i32) (k : Fin 8) (off : Fin 3 → ℕ)
    (e : off = ![0, k.val, 0]) (inb : ∀ a, off a + S8x1x1000.size a ≤ S8x8x1000.size a) :
    View.readAt (Elt F) m.view (Rect.unit (s := S8x8x1000) off S8x1x1000.size inb).toLoadRect (h.unread x1) = aRow x1 k := by
  subst e
  funext y
  rw [h.readAt_unread]
  refine congrArg x1 (funext fun a => Fin.ext ?_)
  fin_cases a
  · show 0 + 1 * (y 0).val = (y 0).val
    omega
  · show k.val + 1 * (y 1).val = k.val
    have : (y 1).val < 1 := (y 1).isLt
    omega
  · show 0 + 1 * (y 2).val = (y 2).val
    omega

/-- The load of the rows `x`. -/
theorem load_x {m : Memref sig κ sp S8x64 .f32} (h : m.IsWhole) (x0 : Vec F S8x64 .f32)
    (inb : ∀ a, (![0, 0] : Fin 2 → ℕ) a + S8x64.size a ≤ S8x64.size a) :
    View.readAt (Elt F) m.view (Rect.unit (s := S8x64) ![0, 0] S8x64.size inb).toLoadRect (h.unread x0) = x0 := by
  funext y
  rw [h.readAt_unread]
  refine congrArg x0 (funext fun a => Fin.ext ?_)
  fin_cases a
  · show 0 + 1 * (y 0).val = (y 0).val
    omega
  · show 0 + 1 * (y 1).val = (y 1).val
    omega

/-- The load of the first column of a buffer of one number per row, whatever list of stores its contents is given by. -/
theorem load_col {m : Memref sig κ sp S8x128 .f32} (f : m.view.ty.Contents (Elt F)) (x : Vec F S8x128 .f32)
    (hf : m.view.read (Elt F) f = x) (inb : ∀ a, (![0, 0] : Fin 2 → ℕ) a + S8x1.size a ≤ S8x128.size a) :
    View.readAt (Elt F) m.view (Rect.unit (s := S8x128) ![0, 0] S8x1.size inb).toLoadRect f = col x := by
  subst hf
  funext y
  refine congrArg (m.view.read (Elt F) f) (funext fun a => Fin.ext ?_)
  fin_cases a
  · show 0 + 1 * (y 0).val = (y 0).val
    omega
  · show 0 + 1 * (y 1).val = 0
    have : (y 1).val < 1 := (y 1).isLt
    omega

/-- The load of a whole buffer of one number per row. -/
theorem load_all {m : Memref sig κ sp S8x128 .f32} (f : m.view.ty.Contents (Elt F)) (x : Vec F S8x128 .f32)
    (hf : m.view.read (Elt F) f = x) (inb : ∀ a, (![0, 0] : Fin 2 → ℕ) a + S8x128.size a ≤ S8x128.size a) :
    View.readAt (Elt F) m.view (Rect.unit (s := S8x128) ![0, 0] S8x128.size inb).toLoadRect f = x := by
  subst hf
  funext y
  refine congrArg (m.view.read (Elt F) f) (funext fun a => Fin.ext ?_)
  fin_cases a
  · show 0 + 1 * (y 0).val = (y 0).val
    omega
  · show 0 + 1 * (y 1).val = (y 1).val
    omega

/-- The load of row `k` of tile `j` of the store of all logits. -/
theorem load_slot {m : Memref sig κ sp S125x8x8x1000 .f32} (h : m.IsWhole) (b : Vec F S125x8x8x1000 .f32) (j : Fin 125) (k : Fin 8)
    (off : Fin 4 → ℕ) (e : off = ![j.val, 0, k.val, 0]) (inb : ∀ a, off a + S1x8x1x1000.size a ≤ S125x8x8x1000.size a) :
    View.readAt (Elt F) m.view (Rect.unit (s := S125x8x8x1000) off S1x8x1x1000.size inb).toLoadRect (h.unread b) = slot b j k := by
  subst e
  funext y
  rw [h.readAt_unread]
  refine congrArg b (funext fun a => Fin.ext ?_)
  fin_cases a
  · show j.val + 1 * (y 0).val = j.val
    have : (y 0).val < 1 := (y 0).isLt
    omega
  · show 0 + 1 * (y 1).val = (y 1).val
    omega
  · show k.val + 1 * (y 2).val = k.val
    have : (y 2).val < 1 := (y 2).isLt
    omega
  · show 0 + 1 * (y 3).val = (y 3).val
    omega

end Loads

/-! ## Stores -/

section Stores

variable {κ : Kind} {sp : Space}

/-- A buffer of one number per row, overwritten as a whole, holds what was stored. -/
theorem read_all (v : View sig κ sp S8x128 .f32) (f : v.ty.Contents (Elt F)) (w : Vec F S8x128 .f32)
    (L : List (View.Piece (Elt F) S8x128 .f32)) (inb : ∀ a, (![0, 0] : Fin 2 → ℕ) a + S8x128.size a ≤ S8x128.size a) :
    v.read (Elt F) (v.writes (Elt F) f ((⟨Rect.unit (s := S8x128) ![0, 0] S8x128.size inb, w⟩ : View.Piece (Elt F) S8x128 .f32) :: L)) = w := by
  funext y
  refine View.read_writes_cons_unit_of_mem v f inb w L y y rfl fun a => ?_
  fin_cases a
  · show (y 0).val = 0 + (y 0).val
    omega
  · show (y 1).val = 0 + (y 1).val
    omega

/-- One row of the tile entered into the store of all logits. -/
theorem read_slot_cons (v : View sig κ sp S125x8x8x1000 .f32) (f : v.ty.Contents (Elt F)) (j : Fin 125) (k : Fin 8)
    (off : Fin 4 → ℕ) (e : off = ![j.val, 0, k.val, 0]) (inb : ∀ a, off a + S1x8x1x1000.size a ≤ S125x8x8x1000.size a)
    (w : Vec F S1x8x1x1000 .f32) (l : FVec F S8x1000 .f32) (hw : ∀ p q, w (ix4 0 p 0 q) = l (ix2 p q))
    (L : List (View.Piece (Elt F) S125x8x8x1000 .f32)) (y : S125x8x8x1000.Idx) :
    v.read (Elt F) (v.writes (Elt F) f ((⟨Rect.unit (s := S125x8x8x1000) off S1x8x1x1000.size inb, w⟩ : View.Piece (Elt F) S125x8x8x1000 .f32) :: L)) y
      = if (y 0).val = j.val ∧ (y 2).val = k.val then l (ix2 (y 1) (y 3)) else v.read (Elt F) (v.writes (Elt F) f L) y := by
  by_cases h : (y 0).val = j.val ∧ (y 2).val = k.val
  · rw [if_pos h]
    refine Eq.trans ?_ (hw (y 1) (y 3))
    refine View.read_writes_cons_unit_of_mem v f inb w L y (ix4 0 (y 1) 0 (y 3)) e fun a => ?_
    obtain ⟨h0, h2⟩ := h
    fin_cases a
    · exact h0
    · show (y 1).val = 0 + (y 1).val
      omega
    · exact h2
    · show (y 3).val = 0 + (y 3).val
      omega
  · rw [if_neg h]
    by_cases h0 : (y 0).val = j.val
    · have h2 : (y 2).val ≠ k.val := fun h2 => h ⟨h0, h2⟩
      refine View.read_writes_cons_unit_of_not_mem v f inb w L y e 2 ?_
      show (y 2).val < k.val ∨ k.val + 1 ≤ (y 2).val
      omega
    · refine View.read_writes_cons_unit_of_not_mem v f inb w L y e 0 ?_
      show (y 0).val < j.val ∨ j.val + 1 ≤ (y 0).val
      omega

/-- Row `k` of the output block. -/
theorem read_row_cons (v : View sig κ sp S8x8x1000 .f32) (f : v.ty.Contents (Elt F)) (k : Fin 8)
    (off : Fin 3 → ℕ) (e : off = ![0, k.val, 0]) (inb : ∀ a, off a + S8x1x1000.size a ≤ S8x8x1000.size a)
    (w : Vec F S8x1x1000 .f32) (l : FVec F S8x1000 .f32) (hw : ∀ p q, w (ix3 p 0 q) = l (ix2 p q))
    (L : List (View.Piece (Elt F) S8x8x1000 .f32)) (y : S8x8x1000.Idx) :
    v.read (Elt F) (v.writes (Elt F) f ((⟨Rect.unit (s := S8x8x1000) off S8x1x1000.size inb, w⟩ : View.Piece (Elt F) S8x8x1000 .f32) :: L)) y
      = if (y 1).val = k.val then l (ix2 (y 0) (y 2)) else v.read (Elt F) (v.writes (Elt F) f L) y := by
  by_cases h : (y 1).val = k.val
  · rw [if_pos h]
    refine Eq.trans ?_ (hw (y 0) (y 2))
    refine View.read_writes_cons_unit_of_mem v f inb w L y (ix3 (y 0) 0 (y 2)) e fun a => ?_
    fin_cases a
    · show (y 0).val = 0 + (y 0).val
      omega
    · exact h
    · show (y 2).val = 0 + (y 2).val
      omega
  · rw [if_neg h]
    refine View.read_writes_cons_unit_of_not_mem v f inb w L y e 1 ?_
    show (y 1).val < k.val ∨ k.val + 1 ≤ (y 1).val
    omega

end Stores

/-- The tile a point's second coordinate names. -/
abbrev tileOf (i : grid0.Coords) : Fin 125 := i 1

/-- The offsets at which the body finds row `k` of its tile in the store of all logits. -/
theorem off_eq (i : grid0.Coords) (k : ℕ) :
    (![(Scalar.indexCast (BitVec.ofNat 32 (i 1).val)).toNat, 0, k, 0] : Fin 4 → ℕ) = ![(tileOf i).val, 0, k, 0] := by
  have hi : (i 1).val < 125 := (i 1).isLt
  have e : (Scalar.indexCast (BitVec.ofNat 32 (i 1).val)).toNat = (i 1).val := by
    show (BitVec.ofNat 32 (i 1).val).toNat = _
    rw [BitVec.toNat_ofNat]
    omega
  rw [e]

/-- The eight rows of a tile entered into the store of all logits, the newest first. -/
theorem read_buf {κ : Kind} {sp : Space} (v : View sig κ sp S125x8x8x1000 .f32) (f : v.ty.Contents (Elt F)) (i : grid0.Coords)
    (L : Fin 8 → FVec F S8x1000 .f32) (b : Vec F S125x8x8x1000 .f32) (hb : v.read (Elt F) f = b)
    (w0 w1 w2 w3 w4 w5 w6 w7 : Vec F S1x8x1x1000 .f32)
    (inb1 : ∀ a, k0_off1 i a + S1x8x1x1000.size a ≤ S125x8x8x1000.size a)
    (inb2 : ∀ a, k0_off2 i a + S1x8x1x1000.size a ≤ S125x8x8x1000.size a)
    (inb3 : ∀ a, k0_off3 i a + S1x8x1x1000.size a ≤ S125x8x8x1000.size a)
    (inb4 : ∀ a, k0_off4 i a + S1x8x1x1000.size a ≤ S125x8x8x1000.size a)
    (inb5 : ∀ a, k0_off5 i a + S1x8x1x1000.size a ≤ S125x8x8x1000.size a)
    (inb6 : ∀ a, k0_off6 i a + S1x8x1x1000.size a ≤ S125x8x8x1000.size a)
    (inb7 : ∀ a, k0_off7 i a + S1x8x1x1000.size a ≤ S125x8x8x1000.size a)
    (inb8 : ∀ a, k0_off8 i a + S1x8x1x1000.size a ≤ S125x8x8x1000.size a)
    (h0 : ∀ p q, w0 (ix4 0 p 0 q) = L 0 (ix2 p q)) (h1 : ∀ p q, w1 (ix4 0 p 0 q) = L 1 (ix2 p q))
    (h2 : ∀ p q, w2 (ix4 0 p 0 q) = L 2 (ix2 p q)) (h3 : ∀ p q, w3 (ix4 0 p 0 q) = L 3 (ix2 p q))
    (h4 : ∀ p q, w4 (ix4 0 p 0 q) = L 4 (ix2 p q)) (h5 : ∀ p q, w5 (ix4 0 p 0 q) = L 5 (ix2 p q))
    (h6 : ∀ p q, w6 (ix4 0 p 0 q) = L 6 (ix2 p q)) (h7 : ∀ p q, w7 (ix4 0 p 0 q) = L 7 (ix2 p q)) :
    v.read (Elt F) (v.writes (Elt F) f
      [⟨Rect.unit (s := S125x8x8x1000) (k0_off8 i) S1x8x1x1000.size inb8, w7⟩, ⟨Rect.unit (s := S125x8x8x1000) (k0_off7 i) S1x8x1x1000.size inb7, w6⟩,
        ⟨Rect.unit (s := S125x8x8x1000) (k0_off6 i) S1x8x1x1000.size inb6, w5⟩, ⟨Rect.unit (s := S125x8x8x1000) (k0_off5 i) S1x8x1x1000.size inb5, w4⟩,
        ⟨Rect.unit (s := S125x8x8x1000) (k0_off4 i) S1x8x1x1000.size inb4, w3⟩, ⟨Rect.unit (s := S125x8x8x1000) (k0_off3 i) S1x8x1x1000.size inb3, w2⟩,
        ⟨Rect.unit (s := S125x8x8x1000) (k0_off2 i) S1x8x1x1000.size inb2, w1⟩, ⟨Rect.unit (s := S125x8x8x1000) (k0_off1 i) S1x8x1x1000.size inb1, w0⟩])
      = bufStep (tileOf i) L b := by
  subst hb
  have hj := off_eq i
  funext y
  rw [read_slot_cons v f (tileOf i) 7 (k0_off8 i) (hj 7) inb8 w7 _ h7, read_slot_cons v f (tileOf i) 6 (k0_off7 i) (hj 6) inb7 w6 _ h6,
    read_slot_cons v f (tileOf i) 5 (k0_off6 i) (hj 5) inb6 w5 _ h5, read_slot_cons v f (tileOf i) 4 (k0_off5 i) (hj 4) inb5 w4 _ h4,
    read_slot_cons v f (tileOf i) 3 (k0_off4 i) (hj 3) inb4 w3 _ h3, read_slot_cons v f (tileOf i) 2 (k0_off3 i) (hj 2) inb3 w2 _ h2,
    read_slot_cons v f (tileOf i) 1 (k0_off2 i) (hj 1) inb2 w1 _ h1, read_slot_cons v f (tileOf i) 0 (k0_off1 i) (hj 0) inb1 w0 _ h0]
  unfold bufStep
  by_cases hy : (y 0).val = (tileOf i).val
  · simp only [hy, true_and, if_true]
    generalize ix2 (y 1) (y 3) = z
    have hk : ∀ k : Fin 8, k = 0 ∨ k = 1 ∨ k = 2 ∨ k = 3 ∨ k = 4 ∨ k = 5 ∨ k = 6 ∨ k = 7 := by decide
    rcases hk (y 2) with h | h | h | h | h | h | h | h <;> rw [h] <;> rfl
  · simp only [hy, false_and, if_false]
    rfl

/-- The eight rows of the output block, the newest first. -/
theorem read_out {κ : Kind} {sp : Space} (v : View sig κ sp S8x8x1000 .f32) (f : v.ty.Contents (Elt F))
    (L : Fin 8 → FVec F S8x1000 .f32) (w0 w1 w2 w3 w4 w5 w6 w7 : Vec F S8x1x1000 .f32)
    (inb0 : ∀ a, (![0, 0, 0] : Fin 3 → ℕ) a + S8x1x1000.size a ≤ S8x8x1000.size a)
    (inb1 : ∀ a, (![0, 1, 0] : Fin 3 → ℕ) a + S8x1x1000.size a ≤ S8x8x1000.size a)
    (inb2 : ∀ a, (![0, 2, 0] : Fin 3 → ℕ) a + S8x1x1000.size a ≤ S8x8x1000.size a)
    (inb3 : ∀ a, (![0, 3, 0] : Fin 3 → ℕ) a + S8x1x1000.size a ≤ S8x8x1000.size a)
    (inb4 : ∀ a, (![0, 4, 0] : Fin 3 → ℕ) a + S8x1x1000.size a ≤ S8x8x1000.size a)
    (inb5 : ∀ a, (![0, 5, 0] : Fin 3 → ℕ) a + S8x1x1000.size a ≤ S8x8x1000.size a)
    (inb6 : ∀ a, (![0, 6, 0] : Fin 3 → ℕ) a + S8x1x1000.size a ≤ S8x8x1000.size a)
    (inb7 : ∀ a, (![0, 7, 0] : Fin 3 → ℕ) a + S8x1x1000.size a ≤ S8x8x1000.size a)
    (h0 : ∀ p q, w0 (ix3 p 0 q) = L 0 (ix2 p q)) (h1 : ∀ p q, w1 (ix3 p 0 q) = L 1 (ix2 p q))
    (h2 : ∀ p q, w2 (ix3 p 0 q) = L 2 (ix2 p q)) (h3 : ∀ p q, w3 (ix3 p 0 q) = L 3 (ix2 p q))
    (h4 : ∀ p q, w4 (ix3 p 0 q) = L 4 (ix2 p q)) (h5 : ∀ p q, w5 (ix3 p 0 q) = L 5 (ix2 p q))
    (h6 : ∀ p q, w6 (ix3 p 0 q) = L 6 (ix2 p q)) (h7 : ∀ p q, w7 (ix3 p 0 q) = L 7 (ix2 p q)) :
    v.read (Elt F) (v.writes (Elt F) f
      [⟨Rect.unit (s := S8x8x1000) ![0, 7, 0] S8x1x1000.size inb7, w7⟩, ⟨Rect.unit (s := S8x8x1000) ![0, 6, 0] S8x1x1000.size inb6, w6⟩,
        ⟨Rect.unit (s := S8x8x1000) ![0, 5, 0] S8x1x1000.size inb5, w5⟩, ⟨Rect.unit (s := S8x8x1000) ![0, 4, 0] S8x1x1000.size inb4, w4⟩,
        ⟨Rect.unit (s := S8x8x1000) ![0, 3, 0] S8x1x1000.size inb3, w3⟩, ⟨Rect.unit (s := S8x8x1000) ![0, 2, 0] S8x1x1000.size inb2, w2⟩,
        ⟨Rect.unit (s := S8x8x1000) ![0, 1, 0] S8x1x1000.size inb1, w1⟩, ⟨Rect.unit (s := S8x8x1000) ![0, 0, 0] S8x1x1000.size inb0, w0⟩])
      = fun y => L (y 1) (ix2 (y 0) (y 2)) := by
  funext y
  rw [read_row_cons v f 7 ![0, 7, 0] rfl inb7 w7 _ h7, read_row_cons v f 6 ![0, 6, 0] rfl inb6 w6 _ h6,
    read_row_cons v f 5 ![0, 5, 0] rfl inb5 w5 _ h5, read_row_cons v f 4 ![0, 4, 0] rfl inb4 w4 _ h4,
    read_row_cons v f 3 ![0, 3, 0] rfl inb3 w3 _ h3, read_row_cons v f 2 ![0, 2, 0] rfl inb2 w2 _ h2,
    read_row_cons v f 1 ![0, 1, 0] rfl inb1 w1 _ h1, read_row_cons v f 0 ![0, 0, 0] rfl inb0 w0 _ h0]
  generalize ix2 (y 0) (y 2) = z
  have hk : ∀ k : Fin 8, k = 0 ∨ k = 1 ∨ k = 2 ∨ k = 3 ∨ k = 4 ∨ k = 5 ∨ k = 6 ∨ k = 7 := by decide
  rcases hk (y 1) with h | h | h | h | h | h | h | h <;> rw [h] <;> rfl

/-- A row of logits in the shape in which it is stored. -/
theorem cast_slot (l : FVec F S8x1000 .f32) (p : Fin 8) (q : Fin 1000) :
    shapeCast S1x8x1x1000 l shapeCasts_S8x1000_S1x8x1x1000 (ix4 0 p 0 q) = l (ix2 p q) := by
  pointwise

/-- A row of the result in the shape in which it is stored. -/
theorem cast_row (l : FVec F S8x1000 .f32) (p : Fin 8) (q : Fin 1000) :
    shapeCast S8x1x1000 l shapeCasts_S8x1000_S8x1x1000 (ix3 p 0 q) = l (ix2 p q) := by
  pointwise

/-! ## Values met under other names -/

section Names

variable {x0 : Vec F S8x64 .f32} {x1 : Vec F S8x8x1000 .i32} {x2 : Vec F S8000x64 .f32} {mx sm : Vec F S8x128 .f32}
variable {a : FVec F S8x64 .bf16} {w : Vec F S1000x64 .f32} {v : Vec F S8x1x1000 .i32} {mc sc : Vec F S8x1 .f32}
variable {l0 l1 l2 l3 l4 l5 l6 l7 : FVec F S8x1000 .f32}

/-- Logits of row `k`, their arguments given by equations. -/
theorem logits_of (k : Fin 8) (ha : a = k0_pay6 x0) (hw : w = wRows x2 k) (hv : v = aRow x1 k) :
    k0_pay11 a w v = logits x0 x1 x2 k := by
  subst ha hw hv
  rfl

/-- The running maximum, its arguments given by equations. -/
theorem max_of (ha : a = k0_pay6 x0) (h0 : l0 = logits x0 x1 x2 0) (h1 : l1 = logits x0 x1 x2 1) (h2 : l2 = logits x0 x1 x2 2)
    (h3 : l3 = logits x0 x1 x2 3) (h4 : l4 = logits x0 x1 x2 4) (h5 : l5 = logits x0 x1 x2 5) (h6 : l6 = logits x0 x1 x2 6)
    (hw : w = wRows x2 7) (hv : v = aRow x1 7) (hm : mc = col mx) :
    k0_pay24 a l0 l1 l2 l3 l4 l5 l6 w v mc = newMax x0 x1 x2 (col mx) := by
  subst ha h0 h1 h2 h3 h4 h5 h6 hw hv hm
  rfl

/-- The running sum, its arguments given by equations. -/
theorem sum_of (ha : a = k0_pay6 x0) (h0 : l0 = logits x0 x1 x2 0) (h1 : l1 = logits x0 x1 x2 1) (h2 : l2 = logits x0 x1 x2 2)
    (h3 : l3 = logits x0 x1 x2 3) (h4 : l4 = logits x0 x1 x2 4) (h5 : l5 = logits x0 x1 x2 5) (h6 : l6 = logits x0 x1 x2 6)
    (h7 : l7 = logits x0 x1 x2 7) (hw : w = wRows x2 7) (hv : v = aRow x1 7) (hm : mc = col mx) (hs : sc = col sm) :
    k0_pay29 l3 l4 l5 l6 l7 mc (k0_pay24 a l0 l1 l2 l3 l4 l5 l6 w v mc) (k0_pay25 a l0 l1 l2 l3 l4 l5 l6 w v mc)
        (k0_pay26 a l0 l1 l2 l3 l4 l5 l6 w v mc) (k0_pay27 a l0 l1 l2 l3 l4 l5 l6 w v mc) sc
      = newSum x0 x1 x2 (col mx) (col sm) := by
  subst ha h0 h1 h2 h3 h4 h5 h6 h7 hw hv hm hs
  rfl

end Names

end Cert.LogSoftmax

end
-- ==== Proof.Ideal.RunB.lean ====
module

public import proofs.«01_k».proof.Proof.Ideal.Step

@[expose] public section

/-!
  The body at a point of the first sweep that is neither its first nor its last.
-/

set_option maxRecDepth 16384

noncomputable section

namespace Cert.LogSoftmax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- At a point strictly inside the first sweep the body enters the tile's logits into the store and steps the running maximum and sum. -/
theorem run_between (c : Dev nD) (i : grid0.Coords) (arg2 : Memref sig .tc .vmem S8x64 .f32) (harg2 : arg2.IsWhole) (arg3 : Memref sig .tc .vmem S8x8x1000 .i32) (harg3 : arg3.IsWhole) (arg4 : Memref sig .tc .vmem S8000x64 .f32) (harg4 : arg4.IsWhole) (arg5 : Memref sig .tc .vmem S8x8x1000 .f32) (harg5 : arg5.IsWhole) (arg6 : Memref sig .tc .vmem S125x8x8x1000 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole)
    (hc0 : InSweep i) (hc1 : ¬AtFirst i) (hc2 : ¬AtLast i) (hc3 : ¬InWrite i)
    (x0 : Vec F S8x64 .f32) (x1 : Vec F S8x8x1000 .i32) (x2 : Vec F S8000x64 .f32) (xo : Vec F S8x8x1000 .f32) (b : Vec F S125x8x8x1000 .f32) (mx sm ls : Vec F S8x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo
        ∗ owns (c : Thread nD τ) arg6 fullShare b ∗ owns (c : Thread nD τ) arg7 fullShare mx ∗ owns (c : Thread nD τ) arg8 fullShare sm ∗ owns (c : Thread nD τ) arg9 fullShare ls
        ∗ (iprop(owns (c : Thread nD τ) arg2 fullShare x0 ∗ owns (c : Thread nD τ) arg3 fullShare x1 ∗ owns (c : Thread nD τ) arg4 fullShare x2 ∗ owns (c : Thread nD τ) arg5 fullShare xo
            ∗ owns (c : Thread nD τ) arg6 fullShare (bufStep (tileOf i) (logits x0 x1 x2) b)
            ∗ owns (c : Thread nD τ) arg7 fullShare (maxStep x0 x1 x2 mx)
            ∗ owns (c : Thread nD τ) arg8 fullShare (sumStep x0 x1 x2 mx sm)
            ∗ owns (c : Thread nD τ) arg9 fullShare ls) -∗ K ⟨⟩))
      ⊢ wp frame (wpE (defs₀ (F := F)) Variants.none c none) E (cc0__body i arg2 harg2 arg3 harg3 arg4 harg4 arg5 harg5 arg6 harg6 arg7 harg7 arg8 harg8 arg9 harg9) K := by
  simp only [cc0__body_eq_skeleton]; unfold cc0__body_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2
  obtain rfl := harg6.eq_unread hfs0; obtain rfl := harg7.eq_unread hfs1; obtain rfl := harg8.eq_unread hfs2
  obtain rfl := harg9.eq_unread hfs3
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  isplitl [HS0]
  · iexists _; isplitr; swap
    · iexact HS0
    · ipureintro
      exact read_buf arg6.view (harg6.unread b) i (logits x0 x1 x2) b (harg6.read_unread b) _ _ _ _ _ _ _ _ _ _ _ _ _ _ _ _
        (fun p q => (cast_slot _ p q).trans (congrFun (logits_of 0 (congrArg k0_pay6 (load_x harg2 x0 _)) (load_w harg4 x2 0 ![0, 0] rfl _) (load_a harg3 x1 0 ![0, 0, 0] rfl _)) _))
        (fun p q => (cast_slot _ p q).trans (congrFun (logits_of 1 (congrArg k0_pay6 (load_x harg2 x0 _)) (load_w harg4 x2 1 ![1000, 0] rfl _) (load_a harg3 x1 1 ![0, 1, 0] rfl _)) _))
        (fun p q => (cast_slot _ p q).trans (congrFun (logits_of 2 (congrArg k0_pay6 (load_x harg2 x0 _)) (load_w harg4 x2 2 ![2000, 0] rfl _) (load_a harg3 x1 2 ![0, 2, 0] rfl _)) _))
        (fun p q => (cast_slot _ p q).trans (congrFun (logits_of 3 (congrArg k0_pay6 (load_x harg2 x0 _)) (load_w harg4 x2 3 ![3000, 0] rfl _) (load_a harg3 x1 3 ![0, 3, 0] rfl _)) _))
        (fun p q => (cast_slot _ p q).trans (congrFun (logits_of 4 (congrArg k0_pay6 (load_x harg2 x0 _)) (load_w harg4 x2 4 ![4000, 0] rfl _) (load_a harg3 x1 4 ![0, 4, 0] rfl _)) _))
        (fun p q => (cast_slot _ p q).trans (congrFun (logits_of 5 (congrArg k0_pay6 (load_x harg2 x0 _)) (load_w harg4 x2 5 ![5000, 0] rfl _) (load_a harg3 x1 5 ![0, 5, 0] rfl _)) _))
        (fun p q => (cast_slot _ p q).trans (congrFun (logits_of 6 (congrArg k0_pay6 (load_x harg2 x0 _)) (load_w harg4 x2 6 ![6000, 0] rfl _) (load_a harg3 x1 6 ![0, 6, 0] rfl _)) _))
        (fun p q => (cast_slot _ p q).trans (congrFun (logits_of 7 (congrArg k0_pay6 (load_x harg2 x0 _)) (load_w harg4 x2 7 ![7000, 0] rfl _) (load_a harg3 x1 7 ![0, 7, 0] rfl _)) _))
  isplitl [HS1]
  · iexists _; isplitr; swap
    · iexact HS1
    · ipureintro
      exact (read_all arg7.view _ _ _ _).trans (congrArg k0_pay28 (max_of (congrArg k0_pay6 (load_x harg2 x0 _))
        (logits_of 0 (congrArg k0_pay6 (load_x harg2 x0 _)) (load_w harg4 x2 0 ![0, 0] rfl _) (load_a harg3 x1 0 ![0, 0, 0] rfl _))
        (logits_of 1 (congrArg k0_pay6 (load_x harg2 x0 _)) (load_w harg4 x2 1 ![1000, 0] rfl _) (load_a harg3 x1 1 ![0, 1, 0] rfl _))
        (logits_of 2 (congrArg k0_pay6 (load_x harg2 x0 _)) (load_w harg4 x2 2 ![2000, 0] rfl _) (load_a harg3 x1 2 ![0, 2, 0] rfl _))
        (logits_of 3 (congrArg k0_pay6 (load_x harg2 x0 _)) (load_w harg4 x2 3 ![3000, 0] rfl _) (load_a harg3 x1 3 ![0, 3, 0] rfl _))
        (logits_of 4 (congrArg k0_pay6 (load_x harg2 x0 _)) (load_w harg4 x2 4 ![4000, 0] rfl _) (load_a harg3 x1 4 ![0, 4, 0] rfl _))
        (logits_of 5 (congrArg k0_pay6 (load_x harg2 x0 _)) (load_w harg4 x2 5 ![5000, 0] rfl _) (load_a harg3 x1 5 ![0, 5, 0] rfl _))
        (logits_of 6 (congrArg k0_pay6 (load_x harg2 x0 _)) (load_w harg4 x2 6 ![6000, 0] rfl _) (load_a harg3 x1 6 ![0, 6, 0] rfl _))
        (load_w harg4 x2 7 ![7000, 0] rfl _) (load_a harg3 x1 7 ![0, 7, 0] rfl _) (load_col _ mx (harg7.read_unread mx) _)))
  isplitl [HS2]
  · iexists _; isplitr; swap
    · iexact HS2
    · ipureintro
      exact (read_all arg8.view _ _ _ _).trans (congrArg k0_pay1 (sum_of (congrArg k0_pay6 (load_x harg2 x0 _))
        (logits_of 0 (congrArg k0_pay6 (load_x harg2 x0 _)) (load_w harg4 x2 0 ![0, 0] rfl _) (load_a harg3 x1 0 ![0, 0, 0] rfl _))
        (logits_of 1 (congrArg k0_pay6 (load_x harg2 x0 _)) (load_w harg4 x2 1 ![1000, 0] rfl _) (load_a harg3 x1 1 ![0, 1, 0] rfl _))
        (logits_of 2 (congrArg k0_pay6 (load_x harg2 x0 _)) (load_w harg4 x2 2 ![2000, 0] rfl _) (load_a harg3 x1 2 ![0, 2, 0] rfl _))
        (logits_of 3 (congrArg k0_pay6 (load_x harg2 x0 _)) (load_w harg4 x2 3 ![3000, 0] rfl _) (load_a harg3 x1 3 ![0, 3, 0] rfl _))
        (logits_of 4 (congrArg k0_pay6 (load_x harg2 x0 _)) (load_w harg4 x2 4 ![4000, 0] rfl _) (load_a harg3 x1 4 ![0, 4, 0] rfl _))
        (logits_of 5 (congrArg k0_pay6 (load_x harg2 x0 _)) (load_w harg4 x2 5 ![5000, 0] rfl _) (load_a harg3 x1 5 ![0, 5, 0] rfl _))
        (logits_of 6 (congrArg k0_pay6 (load_x harg2 x0 _)) (load_w harg4 x2 6 ![6000, 0] rfl _) (load_a harg3 x1 6 ![0, 6, 0] rfl _))
        (logits_of 7 (congrArg k0_pay6 (load_x harg2 x0 _)) (load_w harg4 x2 7 ![7000, 0] rfl _) (load_a harg3 x1 7 ![0, 7, 0] rfl _))
        (load_w harg4 x2 7 ![7000, 0] rfl _) (load_a harg3 x1 7 ![0, 7, 0] rfl _) (load_col _ mx (harg7.read_unread mx) _) (load_col _ sm (harg8.read_unread sm) _)))
  iexists _; isplitr; · ipureintro; exact harg9.read_unread _
  iexact HS3

end Cert.LogSoftmax

end
-- ==== Proof.Ideal.RunA.lean ====
module

public import proofs.«01_k».proof.Proof.Ideal.RunB

@[expose] public section

/-!
  The body at the first point of the first sweep.
-/

set_option maxRecDepth 16384

noncomputable section

namespace Cert.LogSoftmax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- At the first point the body sets the running maximum and sum up, enters the tile's logits into the store and takes the first step. -/
theorem run_first (c : Dev nD) (i : grid0.Coords) (arg2 : Memref sig .tc .vmem S8x64 .f32) (harg2 : arg2.IsWhole) (arg3 : Memref sig .tc .vmem S8x8x1000 .i32) (harg3 : arg3.IsWhole) (arg4 : Memref sig .tc .vmem S8000x64 .f32) (harg4 : arg4.IsWhole) (arg5 : Memref sig .tc .vmem S8x8x1000 .f32) (harg5 : arg5.IsWhole) (arg6 : Memref sig .tc .vmem S125x8x8x1000 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole)
    (hc0 : InSweep i) (hc1 : AtFirst i) (hc2 : ¬AtLast i) (hc3 : ¬InWrite i)
    (x0 : Vec F S8x64 .f32) (x1 : Vec F S8x8x1000 .i32) (x2 : Vec F S8000x64 .f32) (xo : Vec F S8x8x1000 .f32) (b : Vec F S125x8x8x1000 .f32) (mx sm ls : Vec F S8x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo
        ∗ owns (c : Thread nD τ) arg6 fullShare b ∗ owns (c : Thread nD τ) arg7 fullShare mx ∗ owns (c : Thread nD τ) arg8 fullShare sm ∗ owns (c : Thread nD τ) arg9 fullShare ls
        ∗ (iprop(owns (c : Thread nD τ) arg2 fullShare x0 ∗ owns (c : Thread nD τ) arg3 fullShare x1 ∗ owns (c : Thread nD τ) arg4 fullShare x2 ∗ owns (c : Thread nD τ) arg5 fullShare xo
            ∗ owns (c : Thread nD τ) arg6 fullShare (bufStep (tileOf i) (logits x0 x1 x2) b)
            ∗ owns (c : Thread nD τ) arg7 fullShare (maxStep x0 x1 x2 k0_pay4)
            ∗ owns (c : Thread nD τ) arg8 fullShare (sumStep x0 x1 x2 k0_pay4 k0_pay5)
            ∗ owns (c : Thread nD τ) arg9 fullShare ls) -∗ K ⟨⟩))
      ⊢ wp frame (wpE (defs₀ (F := F)) Variants.none c none) E (cc0__body i arg2 harg2 arg3 harg3 arg4 harg4 arg5 harg5 arg6 harg6 arg7 harg7 arg8 harg8 arg9 harg9) K := by
  simp only [cc0__body_eq_skeleton]; unfold cc0__body_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2
  obtain rfl := harg6.eq_unread hfs0; obtain rfl := harg7.eq_unread hfs1; obtain rfl := harg8.eq_unread hfs2
  obtain rfl := harg9.eq_unread hfs3
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  isplitl [HS0]
  · iexists _; isplitr; swap
    · iexact HS0
    · ipureintro
      exact read_buf arg6.view (harg6.unread b) i (logits x0 x1 x2) b (harg6.read_unread b) _ _ _ _ _ _ _ _ _ _ _ _ _ _ _ _
        (fun p q => (cast_slot _ p q).trans (congrFun (logits_of 0 (congrArg k0_pay6 (load_x harg2 x0 _)) (load_w harg4 x2 0 ![0, 0] rfl _) (load_a harg3 x1 0 ![0, 0, 0] rfl _)) _))
        (fun p q => (cast_slot _ p q).trans (congrFun (logits_of 1 (congrArg k0_pay6 (load_x harg2 x0 _)) (load_w harg4 x2 1 ![1000, 0] rfl _) (load_a harg3 x1 1 ![0, 1, 0] rfl _)) _))
        (fun p q => (cast_slot _ p q).trans (congrFun (logits_of 2 (congrArg k0_pay6 (load_x harg2 x0 _)) (load_w harg4 x2 2 ![2000, 0] rfl _) (load_a harg3 x1 2 ![0, 2, 0] rfl _)) _))
        (fun p q => (cast_slot _ p q).trans (congrFun (logits_of 3 (congrArg k0_pay6 (load_x harg2 x0 _)) (load_w harg4 x2 3 ![3000, 0] rfl _) (load_a harg3 x1 3 ![0, 3, 0] rfl _)) _))
        (fun p q => (cast_slot _ p q).trans (congrFun (logits_of 4 (congrArg k0_pay6 (load_x harg2 x0 _)) (load_w harg4 x2 4 ![4000, 0] rfl _) (load_a harg3 x1 4 ![0, 4, 0] rfl _)) _))
        (fun p q => (cast_slot _ p q).trans (congrFun (logits_of 5 (congrArg k0_pay6 (load_x harg2 x0 _)) (load_w harg4 x2 5 ![5000, 0] rfl _) (load_a harg3 x1 5 ![0, 5, 0] rfl _)) _))
        (fun p q => (cast_slot _ p q).trans (congrFun (logits_of 6 (congrArg k0_pay6 (load_x harg2 x0 _)) (load_w harg4 x2 6 ![6000, 0] rfl _) (load_a harg3 x1 6 ![0, 6, 0] rfl _)) _))
        (fun p q => (cast_slot _ p q).trans (congrFun (logits_of 7 (congrArg k0_pay6 (load_x harg2 x0 _)) (load_w harg4 x2 7 ![7000, 0] rfl _) (load_a harg3 x1 7 ![0, 7, 0] rfl _)) _))
  isplitl [HS1]
  · iexists _; isplitr; swap
    · iexact HS1
    · ipureintro
      exact (read_all arg7.view _ _ _ _).trans (congrArg k0_pay28 (max_of (congrArg k0_pay6 (load_x harg2 x0 _))
        (logits_of 0 (congrArg k0_pay6 (load_x harg2 x0 _)) (load_w harg4 x2 0 ![0, 0] rfl _) (load_a harg3 x1 0 ![0, 0, 0] rfl _))
        (logits_of 1 (congrArg k0_pay6 (load_x harg2 x0 _)) (load_w harg4 x2 1 ![1000, 0] rfl _) (load_a harg3 x1 1 ![0, 1, 0] rfl _))
        (logits_of 2 (congrArg k0_pay6 (load_x harg2 x0 _)) (load_w harg4 x2 2 ![2000, 0] rfl _) (load_a harg3 x1 2 ![0, 2, 0] rfl _))
        (logits_of 3 (congrArg k0_pay6 (load_x harg2 x0 _)) (load_w harg4 x2 3 ![3000, 0] rfl _) (load_a harg3 x1 3 ![0, 3, 0] rfl _))
        (logits_of 4 (congrArg k0_pay6 (load_x harg2 x0 _)) (load_w harg4 x2 4 ![4000, 0] rfl _) (load_a harg3 x1 4 ![0, 4, 0] rfl _))
        (logits_of 5 (congrArg k0_pay6 (load_x harg2 x0 _)) (load_w harg4 x2 5 ![5000, 0] rfl _) (load_a harg3 x1 5 ![0, 5, 0] rfl _))
        (logits_of 6 (congrArg k0_pay6 (load_x harg2 x0 _)) (load_w harg4 x2 6 ![6000, 0] rfl _) (load_a harg3 x1 6 ![0, 6, 0] rfl _))
        (load_w harg4 x2 7 ![7000, 0] rfl _) (load_a harg3 x1 7 ![0, 7, 0] rfl _) (load_col _ k0_pay4 (read_all arg7.view _ _ _ _) _)))
  isplitl [HS2]
  · iexists _; isplitr; swap
    · iexact HS2
    · ipureintro
      exact (read_all arg8.view _ _ _ _).trans (congrArg k0_pay1 (sum_of (congrArg k0_pay6 (load_x harg2 x0 _))
        (logits_of 0 (congrArg k0_pay6 (load_x harg2 x0 _)) (load_w harg4 x2 0 ![0, 0] rfl _) (load_a harg3 x1 0 ![0, 0, 0] rfl _))
        (logits_of 1 (congrArg k0_pay6 (load_x harg2 x0 _)) (load_w harg4 x2 1 ![1000, 0] rfl _) (load_a harg3 x1 1 ![0, 1, 0] rfl _))
        (logits_of 2 (congrArg k0_pay6 (load_x harg2 x0 _)) (load_w harg4 x2 2 ![2000, 0] rfl _) (load_a harg3 x1 2 ![0, 2, 0] rfl _))
        (logits_of 3 (congrArg k0_pay6 (load_x harg2 x0 _)) (load_w harg4 x2 3 ![3000, 0] rfl _) (load_a harg3 x1 3 ![0, 3, 0] rfl _))
        (logits_of 4 (congrArg k0_pay6 (load_x harg2 x0 _)) (load_w harg4 x2 4 ![4000, 0] rfl _) (load_a harg3 x1 4 ![0, 4, 0] rfl _))
        (logits_of 5 (congrArg k0_pay6 (load_x harg2 x0 _)) (load_w harg4 x2 5 ![5000, 0] rfl _) (load_a harg3 x1 5 ![0, 5, 0] rfl _))
        (logits_of 6 (congrArg k0_pay6 (load_x harg2 x0 _)) (load_w harg4 x2 6 ![6000, 0] rfl _) (load_a harg3 x1 6 ![0, 6, 0] rfl _))
        (logits_of 7 (congrArg k0_pay6 (load_x harg2 x0 _)) (load_w harg4 x2 7 ![7000, 0] rfl _) (load_a harg3 x1 7 ![0, 7, 0] rfl _))
        (load_w harg4 x2 7 ![7000, 0] rfl _) (load_a harg3 x1 7 ![0, 7, 0] rfl _) (load_col _ k0_pay4 (read_all arg7.view _ _ _ _) _) (load_col _ k0_pay5 (read_all arg8.view _ _ _ _) _)))
  iexists _; isplitr; · ipureintro; exact harg9.read_unread _
  iexact HS3

end Cert.LogSoftmax

end
-- ==== Proof.Ideal.RunC.lean ====
module

public import proofs.«01_k».proof.Proof.Ideal.RunA

@[expose] public section

/-!
  The body at the last point of the first sweep.
-/

set_option maxRecDepth 16384

noncomputable section

namespace Cert.LogSoftmax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- At the last point of the first sweep the body takes the last step and forms the normaliser, the maximum plus the logarithm of the sum. -/
theorem run_last (c : Dev nD) (i : grid0.Coords) (arg2 : Memref sig .tc .vmem S8x64 .f32) (harg2 : arg2.IsWhole) (arg3 : Memref sig .tc .vmem S8x8x1000 .i32) (harg3 : arg3.IsWhole) (arg4 : Memref sig .tc .vmem S8000x64 .f32) (harg4 : arg4.IsWhole) (arg5 : Memref sig .tc .vmem S8x8x1000 .f32) (harg5 : arg5.IsWhole) (arg6 : Memref sig .tc .vmem S125x8x8x1000 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole)
    (hc0 : InSweep i) (hc1 : ¬AtFirst i) (hc2 : AtLast i) (hc3 : ¬InWrite i)
    (x0 : Vec F S8x64 .f32) (x1 : Vec F S8x8x1000 .i32) (x2 : Vec F S8000x64 .f32) (xo : Vec F S8x8x1000 .f32) (b : Vec F S125x8x8x1000 .f32) (mx sm ls : Vec F S8x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo
        ∗ owns (c : Thread nD τ) arg6 fullShare b ∗ owns (c : Thread nD τ) arg7 fullShare mx ∗ owns (c : Thread nD τ) arg8 fullShare sm ∗ owns (c : Thread nD τ) arg9 fullShare ls
        ∗ (iprop(owns (c : Thread nD τ) arg2 fullShare x0 ∗ owns (c : Thread nD τ) arg3 fullShare x1 ∗ owns (c : Thread nD τ) arg4 fullShare x2 ∗ owns (c : Thread nD τ) arg5 fullShare xo
            ∗ owns (c : Thread nD τ) arg6 fullShare (bufStep (tileOf i) (logits x0 x1 x2) b)
            ∗ owns (c : Thread nD τ) arg7 fullShare (maxStep x0 x1 x2 mx)
            ∗ owns (c : Thread nD τ) arg8 fullShare (sumStep x0 x1 x2 mx sm)
            ∗ owns (c : Thread nD τ) arg9 fullShare (k0_pay2 (maxStep x0 x1 x2 mx) (sumStep x0 x1 x2 mx sm))) -∗ K ⟨⟩))
      ⊢ wp frame (wpE (defs₀ (F := F)) Variants.none c none) E (cc0__body i arg2 harg2 arg3 harg3 arg4 harg4 arg5 harg5 arg6 harg6 arg7 harg7 arg8 harg8 arg9 harg9) K := by
  simp only [cc0__body_eq_skeleton]; unfold cc0__body_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2
  obtain rfl := harg6.eq_unread hfs0; obtain rfl := harg7.eq_unread hfs1; obtain rfl := harg8.eq_unread hfs2
  obtain rfl := harg9.eq_unread hfs3
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  isplitl [HS0]
  · iexists _; isplitr; swap
    · iexact HS0
    · ipureintro
      exact read_buf arg6.view (harg6.unread b) i (logits x0 x1 x2) b (harg6.read_unread b) _ _ _ _ _ _ _ _ _ _ _ _ _ _ _ _
        (fun p q => (cast_slot _ p q).trans (congrFun (logits_of 0 (congrArg k0_pay6 (load_x harg2 x0 _)) (load_w harg4 x2 0 ![0, 0] rfl _) (load_a harg3 x1 0 ![0, 0, 0] rfl _)) _))
        (fun p q => (cast_slot _ p q).trans (congrFun (logits_of 1 (congrArg k0_pay6 (load_x harg2 x0 _)) (load_w harg4 x2 1 ![1000, 0] rfl _) (load_a harg3 x1 1 ![0, 1, 0] rfl _)) _))
        (fun p q => (cast_slot _ p q).trans (congrFun (logits_of 2 (congrArg k0_pay6 (load_x harg2 x0 _)) (load_w harg4 x2 2 ![2000, 0] rfl _) (load_a harg3 x1 2 ![0, 2, 0] rfl _)) _))
        (fun p q => (cast_slot _ p q).trans (congrFun (logits_of 3 (congrArg k0_pay6 (load_x harg2 x0 _)) (load_w harg4 x2 3 ![3000, 0] rfl _) (load_a harg3 x1 3 ![0, 3, 0] rfl _)) _))
        (fun p q => (cast_slot _ p q).trans (congrFun (logits_of 4 (congrArg k0_pay6 (load_x harg2 x0 _)) (load_w harg4 x2 4 ![4000, 0] rfl _) (load_a harg3 x1 4 ![0, 4, 0] rfl _)) _))
        (fun p q => (cast_slot _ p q).trans (congrFun (logits_of 5 (congrArg k0_pay6 (load_x harg2 x0 _)) (load_w harg4 x2 5 ![5000, 0] rfl _) (load_a harg3 x1 5 ![0, 5, 0] rfl _)) _))
        (fun p q => (cast_slot _ p q).trans (congrFun (logits_of 6 (congrArg k0_pay6 (load_x harg2 x0 _)) (load_w harg4 x2 6 ![6000, 0] rfl _) (load_a harg3 x1 6 ![0, 6, 0] rfl _)) _))
        (fun p q => (cast_slot _ p q).trans (congrFun (logits_of 7 (congrArg k0_pay6 (load_x harg2 x0 _)) (load_w harg4 x2 7 ![7000, 0] rfl _) (load_a harg3 x1 7 ![0, 7, 0] rfl _)) _))
  isplitl [HS1]
  · iexists _; isplitr; swap
    · iexact HS1
    · ipureintro
      exact (read_all arg7.view _ _ _ _).trans (congrArg k0_pay28 (max_of (congrArg k0_pay6 (load_x harg2 x0 _))
        (logits_of 0 (congrArg k0_pay6 (load_x harg2 x0 _)) (load_w harg4 x2 0 ![0, 0] rfl _) (load_a harg3 x1 0 ![0, 0, 0] rfl _))
        (logits_of 1 (congrArg k0_pay6 (load_x harg2 x0 _)) (load_w harg4 x2 1 ![1000, 0] rfl _) (load_a harg3 x1 1 ![0, 1, 0] rfl _))
        (logits_of 2 (congrArg k0_pay6 (load_x harg2 x0 _)) (load_w harg4 x2 2 ![2000, 0] rfl _) (load_a harg3 x1 2 ![0, 2, 0] rfl _))
        (logits_of 3 (congrArg k0_pay6 (load_x harg2 x0 _)) (load_w harg4 x2 3 ![3000, 0] rfl _) (load_a harg3 x1 3 ![0, 3, 0] rfl _))
        (logits_of 4 (congrArg k0_pay6 (load_x harg2 x0 _)) (load_w harg4 x2 4 ![4000, 0] rfl _) (load_a harg3 x1 4 ![0, 4, 0] rfl _))
        (logits_of 5 (congrArg k0_pay6 (load_x harg2 x0 _)) (load_w harg4 x2 5 ![5000, 0] rfl _) (load_a harg3 x1 5 ![0, 5, 0] rfl _))
        (logits_of 6 (congrArg k0_pay6 (load_x harg2 x0 _)) (load_w harg4 x2 6 ![6000, 0] rfl _) (load_a harg3 x1 6 ![0, 6, 0] rfl _))
        (load_w harg4 x2 7 ![7000, 0] rfl _) (load_a harg3 x1 7 ![0, 7, 0] rfl _) (load_col _ mx (harg7.read_unread mx) _)))
  isplitl [HS2]
  · iexists _; isplitr; swap
    · iexact HS2
    · ipureintro
      exact (read_all arg8.view _ _ _ _).trans (congrArg k0_pay1 (sum_of (congrArg k0_pay6 (load_x harg2 x0 _))
        (logits_of 0 (congrArg k0_pay6 (load_x harg2 x0 _)) (load_w harg4 x2 0 ![0, 0] rfl _) (load_a harg3 x1 0 ![0, 0, 0] rfl _))
        (logits_of 1 (congrArg k0_pay6 (load_x harg2 x0 _)) (load_w harg4 x2 1 ![1000, 0] rfl _) (load_a harg3 x1 1 ![0, 1, 0] rfl _))
        (logits_of 2 (congrArg k0_pay6 (load_x harg2 x0 _)) (load_w harg4 x2 2 ![2000, 0] rfl _) (load_a harg3 x1 2 ![0, 2, 0] rfl _))
        (logits_of 3 (congrArg k0_pay6 (load_x harg2 x0 _)) (load_w harg4 x2 3 ![3000, 0] rfl _) (load_a harg3 x1 3 ![0, 3, 0] rfl _))
        (logits_of 4 (congrArg k0_pay6 (load_x harg2 x0 _)) (load_w harg4 x2 4 ![4000, 0] rfl _) (load_a harg3 x1 4 ![0, 4, 0] rfl _))
        (logits_of 5 (congrArg k0_pay6 (load_x harg2 x0 _)) (load_w harg4 x2 5 ![5000, 0] rfl _) (load_a harg3 x1 5 ![0, 5, 0] rfl _))
        (logits_of 6 (congrArg k0_pay6 (load_x harg2 x0 _)) (load_w harg4 x2 6 ![6000, 0] rfl _) (load_a harg3 x1 6 ![0, 6, 0] rfl _))
        (logits_of 7 (congrArg k0_pay6 (load_x harg2 x0 _)) (load_w harg4 x2 7 ![7000, 0] rfl _) (load_a harg3 x1 7 ![0, 7, 0] rfl _))
        (load_w harg4 x2 7 ![7000, 0] rfl _) (load_a harg3 x1 7 ![0, 7, 0] rfl _) (load_col _ mx (harg7.read_unread mx) _) (load_col _ sm (harg8.read_unread sm) _)))
  iexists _; isplitr; swap
  · iexact HS3
  · ipureintro
    exact (read_all arg9.view _ _ _ _).trans (congrArg₂ k0_pay2
        (load_all _ _ ((read_all arg7.view _ _ _ _).trans (congrArg k0_pay28 (max_of (congrArg k0_pay6 (load_x harg2 x0 _))
        (logits_of 0 (congrArg k0_pay6 (load_x harg2 x0 _)) (load_w harg4 x2 0 ![0, 0] rfl _) (load_a harg3 x1 0 ![0, 0, 0] rfl _))
        (logits_of 1 (congrArg k0_pay6 (load_x harg2 x0 _)) (load_w harg4 x2 1 ![1000, 0] rfl _) (load_a harg3 x1 1 ![0, 1, 0] rfl _))
        (logits_of 2 (congrArg k0_pay6 (load_x harg2 x0 _)) (load_w harg4 x2 2 ![2000, 0] rfl _) (load_a harg3 x1 2 ![0, 2, 0] rfl _))
        (logits_of 3 (congrArg k0_pay6 (load_x harg2 x0 _)) (load_w harg4 x2 3 ![3000, 0] rfl _) (load_a harg3 x1 3 ![0, 3, 0] rfl _))
        (logits_of 4 (congrArg k0_pay6 (load_x harg2 x0 _)) (load_w harg4 x2 4 ![4000, 0] rfl _) (load_a harg3 x1 4 ![0, 4, 0] rfl _))
        (logits_of 5 (congrArg k0_pay6 (load_x harg2 x0 _)) (load_w harg4 x2 5 ![5000, 0] rfl _) (load_a harg3 x1 5 ![0, 5, 0] rfl _))
        (logits_of 6 (congrArg k0_pay6 (load_x harg2 x0 _)) (load_w harg4 x2 6 ![6000, 0] rfl _) (load_a harg3 x1 6 ![0, 6, 0] rfl _))
        (load_w harg4 x2 7 ![7000, 0] rfl _) (load_a harg3 x1 7 ![0, 7, 0] rfl _) (load_col _ mx (harg7.read_unread mx) _)))) _)
        (load_all _ _ ((read_all arg8.view _ _ _ _).trans (congrArg k0_pay1 (sum_of (congrArg k0_pay6 (load_x harg2 x0 _))
        (logits_of 0 (congrArg k0_pay6 (load_x harg2 x0 _)) (load_w harg4 x2 0 ![0, 0] rfl _) (load_a harg3 x1 0 ![0, 0, 0] rfl _))
        (logits_of 1 (congrArg k0_pay6 (load_x harg2 x0 _)) (load_w harg4 x2 1 ![1000, 0] rfl _) (load_a harg3 x1 1 ![0, 1, 0] rfl _))
        (logits_of 2 (congrArg k0_pay6 (load_x harg2 x0 _)) (load_w harg4 x2 2 ![2000, 0] rfl _) (load_a harg3 x1 2 ![0, 2, 0] rfl _))
        (logits_of 3 (congrArg k0_pay6 (load_x harg2 x0 _)) (load_w harg4 x2 3 ![3000, 0] rfl _) (load_a harg3 x1 3 ![0, 3, 0] rfl _))
        (logits_of 4 (congrArg k0_pay6 (load_x harg2 x0 _)) (load_w harg4 x2 4 ![4000, 0] rfl _) (load_a harg3 x1 4 ![0, 4, 0] rfl _))
        (logits_of 5 (congrArg k0_pay6 (load_x harg2 x0 _)) (load_w harg4 x2 5 ![5000, 0] rfl _) (load_a harg3 x1 5 ![0, 5, 0] rfl _))
        (logits_of 6 (congrArg k0_pay6 (load_x harg2 x0 _)) (load_w harg4 x2 6 ![6000, 0] rfl _) (load_a harg3 x1 6 ![0, 6, 0] rfl _))
        (logits_of 7 (congrArg k0_pay6 (load_x harg2 x0 _)) (load_w harg4 x2 7 ![7000, 0] rfl _) (load_a harg3 x1 7 ![0, 7, 0] rfl _))
        (load_w harg4 x2 7 ![7000, 0] rfl _) (load_a harg3 x1 7 ![0, 7, 0] rfl _) (load_col _ mx (harg7.read_unread mx) _) (load_col _ sm (harg8.read_unread sm) _)))) _))

end Cert.LogSoftmax

end
-- ==== Proof.Ideal.RunD.lean ====
module

public import proofs.«01_k».proof.Proof.Ideal.RunC

@[expose] public section

/-!
  The body at a point of the second sweep.
-/

set_option maxRecDepth 16384

noncomputable section

namespace Cert.LogSoftmax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- At a point of the second sweep the body writes the tile's logits minus the normaliser. -/
theorem run_write (c : Dev nD) (i : grid0.Coords) (arg2 : Memref sig .tc .vmem S8x64 .f32) (harg2 : arg2.IsWhole) (arg3 : Memref sig .tc .vmem S8x8x1000 .i32) (harg3 : arg3.IsWhole) (arg4 : Memref sig .tc .vmem S8000x64 .f32) (harg4 : arg4.IsWhole) (arg5 : Memref sig .tc .vmem S8x8x1000 .f32) (harg5 : arg5.IsWhole) (arg6 : Memref sig .tc .vmem S125x8x8x1000 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole)
    (hc0 : ¬InSweep i) (hc3 : InWrite i)
    (x0 : Vec F S8x64 .f32) (x1 : Vec F S8x8x1000 .i32) (x2 : Vec F S8000x64 .f32) (xo : Vec F S8x8x1000 .f32) (b : Vec F S125x8x8x1000 .f32) (mx sm ls : Vec F S8x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo
        ∗ owns (c : Thread nD τ) arg6 fullShare b ∗ owns (c : Thread nD τ) arg7 fullShare mx ∗ owns (c : Thread nD τ) arg8 fullShare sm ∗ owns (c : Thread nD τ) arg9 fullShare ls
        ∗ (iprop(owns (c : Thread nD τ) arg2 fullShare x0 ∗ owns (c : Thread nD τ) arg3 fullShare x1 ∗ owns (c : Thread nD τ) arg4 fullShare x2 ∗ owns (c : Thread nD τ) arg5 fullShare (outOf b ls (tileOf i))
            ∗ owns (c : Thread nD τ) arg6 fullShare b
            ∗ owns (c : Thread nD τ) arg7 fullShare mx
            ∗ owns (c : Thread nD τ) arg8 fullShare sm
            ∗ owns (c : Thread nD τ) arg9 fullShare ls) -∗ K ⟨⟩))
      ⊢ wp frame (wpE (defs₀ (F := F)) Variants.none c none) E (cc0__body i arg2 harg2 arg3 harg3 arg4 harg4 arg5 harg5 arg6 harg6 arg7 harg7 arg8 harg8 arg9 harg9) K := by
  simp only [cc0__body_eq_skeleton]; unfold cc0__body_skel
  simp only [k0_part6_eq_skeleton, k0_part7_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2
  obtain rfl := harg6.eq_unread hfs0; obtain rfl := harg7.eq_unread hfs1; obtain rfl := harg8.eq_unread hfs2
  obtain rfl := harg9.eq_unread hfs3
  sl_exec (disch := first | sl_exact hc0 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap
    · iexact H3
    · ipureintro
      exact read_out arg5.view _ (fun k => k0_pay38 (col ls) (slot b (tileOf i) k)) _ _ _ _ _ _ _ _ _ _ _ _ _ _ _ _
        (fun p q => (cast_row _ p q).trans (congrFun (congrArg₂ k0_pay38 (load_col _ ls (harg9.read_unread ls) _) (load_slot harg6 b (tileOf i) 0 (k0_off9 i) (off_eq i 0) _)) _))
        (fun p q => (cast_row _ p q).trans (congrFun (congrArg₂ k0_pay38 (load_col _ ls (harg9.read_unread ls) _) (load_slot harg6 b (tileOf i) 1 (k0_off10 i) (off_eq i 1) _)) _))
        (fun p q => (cast_row _ p q).trans (congrFun (congrArg₂ k0_pay38 (load_col _ ls (harg9.read_unread ls) _) (load_slot harg6 b (tileOf i) 2 (k0_off11 i) (off_eq i 2) _)) _))
        (fun p q => (cast_row _ p q).trans (congrFun (congrArg₂ k0_pay38 (load_col _ ls (harg9.read_unread ls) _) (load_slot harg6 b (tileOf i) 3 (k0_off12 i) (off_eq i 3) _)) _))
        (fun p q => (cast_row _ p q).trans (congrFun (congrArg₂ k0_pay38 (load_col _ ls (harg9.read_unread ls) _) (load_slot harg6 b (tileOf i) 4 (k0_off13 i) (off_eq i 4) _)) _))
        (fun p q => (cast_row _ p q).trans (congrFun (congrArg₂ k0_pay38 (load_col _ ls (harg9.read_unread ls) _) (load_slot harg6 b (tileOf i) 5 (k0_off14 i) (off_eq i 5) _)) _))
        (fun p q => (cast_row _ p q).trans (congrFun (congrArg₂ k0_pay38 (load_col _ ls (harg9.read_unread ls) _) (load_slot harg6 b (tileOf i) 6 (k0_off15 i) (off_eq i 6) _)) _))
        (fun p q => (cast_row _ p q).trans (congrFun (congrArg₂ k0_pay38 (load_col _ ls (harg9.read_unread ls) _) (load_slot harg6 b (tileOf i) 7 (k0_off16 i) (off_eq i 7) _)) _))
  isplitl [HS0]
  · iexists _; isplitr; · ipureintro; exact harg6.read_unread _
    iexact HS0
  isplitl [HS1]
  · iexists _; isplitr; · ipureintro; exact harg7.read_unread _
    iexact HS1
  isplitl [HS2]
  · iexists _; isplitr; · ipureintro; exact harg8.read_unread _
    iexact HS2
  iexists _; isplitr; · ipureintro; exact harg9.read_unread _
  iexact HS3

end Cert.LogSoftmax

end
-- ==== Proof.Ideal.Data.lean ====
module

public import proofs.«01_k».proof.Proof.Ideal.RunD

@[expose] public section

/-!
  What the scratch buffers hold between the grid points, and what each point leaves in the output's
  buffer: the proof data of the pipeline.
-/

set_option maxRecDepth 16384

noncomputable section

namespace Cert.LogSoftmax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents by recursion on the tiles -/

/-- The grid point of a number. -/
def ptOf (n : ℕ) : Fin cfg0.N := ⟨n % 250, Nat.lt_of_lt_of_eq (Nat.mod_lt n (by decide)) N_0.symm⟩

theorem ptOf_val (t : Fin cfg0.N) : ptOf t.val = t := Fin.ext (Nat.mod_eq_of_lt (point_lt t))

/-- The rows `x` as a point finds them, -/
def blkX (c : Dev nD) (n : ℕ) : Vec F S8x64 .f32 := iblk m c 0 (ptOf n)
/-- its tile of available actions, -/
def blkA (c : Dev nD) (n : ℕ) : Vec F S8x8x1000 .i32 := iblk m c 1 (ptOf n)
/-- and its tile of the weights. -/
def blkW (c : Dev nD) (n : ℕ) : Vec F S8000x64 .f32 := iblk m c 2 (ptOf n)

/-- The logits of row `k` of tile `n`. -/
def tileLogits (c : Dev nD) (n : ℕ) (k : Fin 8) : FVec F S8x1000 .f32 := logits (blkX m c n) (blkA m c n) (blkW m c n) k

/-- The running maximum after tile `n`. -/
def maxAt (c : Dev nD) : ℕ → Vec F S8x128 .f32
  | 0 => maxStep (blkX m c 0) (blkA m c 0) (blkW m c 0) k0_pay4
  | n + 1 => maxStep (blkX m c (n + 1)) (blkA m c (n + 1)) (blkW m c (n + 1)) (maxAt c n)

/-- The running sum after tile `n`. -/
def sumAt (c : Dev nD) : ℕ → Vec F S8x128 .f32
  | 0 => sumStep (blkX m c 0) (blkA m c 0) (blkW m c 0) k0_pay4 k0_pay5
  | n + 1 => sumStep (blkX m c (n + 1)) (blkA m c (n + 1)) (blkW m c (n + 1)) (maxAt m c n) (sumAt c n)

/-- The normaliser. -/
def lseAt (c : Dev nD) : Vec F S8x128 .f32 := k0_pay2 (maxAt m c 124) (sumAt m c 124)

/-- The output block of tile `j`. -/
def outAt (c : Dev nD) (j : ℕ) : Vec F S8x8x1000 .f32 :=
  fun y => k0_pay38 (col (lseAt m c)) (fun z => tileLogits m c j (y 1) (ix2 (z 1) (z 3))) (ix2 (y 0) (y 2))

/-- What the scratch buffers hold after point `n`. -/
structure Good (c : Dev nD) (n : ℕ) (b : Vec F S125x8x8x1000 .f32) (mx sm ls : Vec F S8x128 .f32) : Prop where
  max : mx = maxAt m c (min n 124)
  sum : sm = sumAt m c (min n 124)
  buf : ∀ y, (y 0).val ≤ n → b y = tileLogits m c (y 0).val (y 2) (ix2 (y 1) (y 3))
  lse : 124 ≤ n → ls = lseAt m c

/-! ## One point's step -/

/-- A tile entered into the store of all logits extends what is known of it. -/
theorem buf_step (c : Dev nD) (t : Fin cfg0.N) (ht : t.val < 125) (b : Vec F S125x8x8x1000 .f32)
    (hb : ∀ y, (y 0).val < t.val → b y = tileLogits m c (y 0).val (y 2) (ix2 (y 1) (y 3))) (y : S125x8x8x1000.Idx)
    (hy : (y 0).val ≤ t.val) :
    bufStep (tileOf (grid0.coords t)) (logits (iblk m c 0 t) (iblk m c 1 t) (iblk m c 2 t)) b y
      = tileLogits m c (y 0).val (y 2) (ix2 (y 1) (y 3)) := by
  have e : (tileOf (grid0.coords t)).val = t.val := (coord_tile t).trans (Nat.mod_eq_of_lt ht)
  unfold bufStep
  by_cases h : (y 0).val = t.val
  · rw [if_pos (h.trans e.symm)]
    unfold tileLogits blkX blkA blkW
    rw [h, ptOf_val]
  · rw [if_neg (fun h' => h (h'.trans e))]
    exact hb y (by omega)

theorem good_first (c : Dev nD) (t : Fin cfg0.N) (ht : t.val = 0) (b : Vec F S125x8x8x1000 .f32) (ls : Vec F S8x128 .f32) :
    Good m c t.val (bufStep (tileOf (grid0.coords t)) (logits (iblk m c 0 t) (iblk m c 1 t) (iblk m c 2 t)) b)
      (maxStep (iblk m c 0 t) (iblk m c 1 t) (iblk m c 2 t) k0_pay4)
      (sumStep (iblk m c 0 t) (iblk m c 1 t) (iblk m c 2 t) k0_pay4 k0_pay5) ls := by
  have e : ptOf 0 = t := by rw [← ht, ptOf_val]
  refine ⟨?_, ?_, fun y hy => buf_step m c t (by omega) b (fun y h => by omega) y hy, fun h => by omega⟩
  · rw [ht]
    show _ = maxStep (blkX m c 0) (blkA m c 0) (blkW m c 0) k0_pay4
    unfold blkX blkA blkW
    rw [e]
  · rw [ht]
    show _ = sumStep (blkX m c 0) (blkA m c 0) (blkW m c 0) k0_pay4 k0_pay5
    unfold blkX blkA blkW
    rw [e]

theorem max_next (c : Dev nD) (t : Fin cfg0.N) (n : ℕ) (hn : t.val = n + 1) (ht : t.val < 125) :
    maxStep (iblk m c 0 t) (iblk m c 1 t) (iblk m c 2 t) (maxAt m c (min n 124)) = maxAt m c (min t.val 124) := by
  rw [hn, Nat.min_eq_left (by omega), Nat.min_eq_left (by omega)]
  show _ = maxStep (blkX m c (n + 1)) (blkA m c (n + 1)) (blkW m c (n + 1)) (maxAt m c n)
  unfold blkX blkA blkW
  rw [← hn, ptOf_val]

theorem sum_next (c : Dev nD) (t : Fin cfg0.N) (n : ℕ) (hn : t.val = n + 1) (ht : t.val < 125) :
    sumStep (iblk m c 0 t) (iblk m c 1 t) (iblk m c 2 t) (maxAt m c (min n 124)) (sumAt m c (min n 124))
      = sumAt m c (min t.val 124) := by
  rw [hn, Nat.min_eq_left (by omega), Nat.min_eq_left (by omega)]
  show _ = sumStep (blkX m c (n + 1)) (blkA m c (n + 1)) (blkW m c (n + 1)) (maxAt m c n) (sumAt m c n)
  unfold blkX blkA blkW
  rw [← hn, ptOf_val]

theorem good_next (c : Dev nD) (t : Fin cfg0.N) (n : ℕ) (hn : t.val = n + 1) (ht : t.val < 124) {b : Vec F S125x8x8x1000 .f32}
    {mx sm ls : Vec F S8x128 .f32} (h : Good m c n b mx sm ls) :
    Good m c t.val (bufStep (tileOf (grid0.coords t)) (logits (iblk m c 0 t) (iblk m c 1 t) (iblk m c 2 t)) b)
      (maxStep (iblk m c 0 t) (iblk m c 1 t) (iblk m c 2 t) mx)
      (sumStep (iblk m c 0 t) (iblk m c 1 t) (iblk m c 2 t) mx sm) ls := by
  refine ⟨?_, ?_, fun y hy => buf_step m c t (by omega) b (fun y h' => h.buf y (by omega)) y hy, fun h => by omega⟩
  · rw [h.max]
    exact max_next m c t n hn (by omega)
  · rw [h.max, h.sum]
    exact sum_next m c t n hn (by omega)

theorem good_last (c : Dev nD) (t : Fin cfg0.N) (n : ℕ) (hn : t.val = n + 1) (ht : t.val = 124) {b : Vec F S125x8x8x1000 .f32}
    {mx sm ls : Vec F S8x128 .f32} (h : Good m c n b mx sm ls) :
    Good m c t.val (bufStep (tileOf (grid0.coords t)) (logits (iblk m c 0 t) (iblk m c 1 t) (iblk m c 2 t)) b)
      (maxStep (iblk m c 0 t) (iblk m c 1 t) (iblk m c 2 t) mx)
      (sumStep (iblk m c 0 t) (iblk m c 1 t) (iblk m c 2 t) mx sm)
      (k0_pay2 (maxStep (iblk m c 0 t) (iblk m c 1 t) (iblk m c 2 t) mx)
        (sumStep (iblk m c 0 t) (iblk m c 1 t) (iblk m c 2 t) mx sm)) := by
  have e1 := max_next m c t n hn (by omega)
  have e2 := sum_next m c t n hn (by omega)
  refine ⟨?_, ?_, fun y hy => buf_step m c t (by omega) b (fun y h' => h.buf y (by omega)) y hy, fun _ => ?_⟩
  · rw [h.max]
    exact e1
  · rw [h.max, h.sum]
    exact e2
  · rw [h.max, h.sum, e1, e2, ht]
    rfl

theorem good_write (c : Dev nD) (n : ℕ) (hn : 124 ≤ n) {b : Vec F S125x8x8x1000 .f32}
    {mx sm ls : Vec F S8x128 .f32} (h : Good m c n b mx sm ls) : Good m c (n + 1) b mx sm ls := by
  refine ⟨?_, ?_, fun y _ => h.buf y ?_, fun _ => h.lse hn⟩
  · rw [h.max, Nat.min_eq_right hn, Nat.min_eq_right (by omega)]
  · rw [h.sum, Nat.min_eq_right hn, Nat.min_eq_right (by omega)]
  · have : (y 0).val < 125 := (y 0).isLt
    omega

/-- The output block a point of the second sweep writes. -/
theorem out_eq (c : Dev nD) (t : Fin cfg0.N) (n : ℕ) (hn : 124 ≤ n) {b : Vec F S125x8x8x1000 .f32}
    {mx sm ls : Vec F S8x128 .f32} (h : Good m c n b mx sm ls) :
    outOf b ls (tileOf (grid0.coords t)) = outAt m c (t.val % 125) := by
  have e : (tileOf (grid0.coords t)).val = t.val % 125 := coord_tile t
  funext y
  unfold outOf outAt
  rw [h.lse hn]
  have es : slot b (tileOf (grid0.coords t)) (y 1) = fun z => tileLogits m c (t.val % 125) (y 1) (ix2 (z 1) (z 3)) := by
    funext z
    unfold slot
    rw [h.buf _ (by show (tileOf (grid0.coords t)).val ≤ n; have : t.val % 125 < 125 := Nat.mod_lt _ (by decide); omega)]
    show tileLogits m c (tileOf (grid0.coords t)).val (y 1) (ix2 (z 1) (z 3)) = _
    rw [e]
  rw [es]

/-! ## The invariant and the proof data -/

/-- The invariant before point `n`: before the first point what the region starts with, after it the scratch buffers at
contents that are `Good`. -/
def Inv (c : Dev nD) : ℕ → sProp 𝕄
  | 0 => Pipeline.ΦA spec0 c
  | n + 1 => iprop(∃ b mx sm ls, ⌜Good m c n b mx sm ls⌝ ∗ owns (c : Thread nD τ) mrBuf fullShare b ∗ owns (c : Thread nD τ) mrMax fullShare mx
      ∗ owns (c : Thread nD τ) mrSum fullShare sm ∗ owns (c : Thread nD τ) mrLse fullShare ls ∗ (∃ r, prngReg c r))

theorem inv_succ (c : Dev nD) (n : ℕ) :
    (Inv m c (n + 1) : sProp 𝕄) = iprop(∃ b mx sm ls, ⌜Good m c n b mx sm ls⌝ ∗ owns (c : Thread nD τ) mrBuf fullShare b
      ∗ owns (c : Thread nD τ) mrMax fullShare mx ∗ owns (c : Thread nD τ) mrSum fullShare sm ∗ owns (c : Thread nD τ) mrLse fullShare ls
      ∗ (∃ r, prngReg c r)) := rfl

/-- The proof data: the arrays as the region finds them; each input's buffer left at its block, the output's at the
tile's output block; the invariant `Inv`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c (t.val % 125)
  Φ t := Inv m c t.val
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_a (c : Dev nD) (t : Fin cfg0.N) : (dats m 0 c).after 1 t = iblk m c 1 t := by dsimp only [dats]
theorem after_w (c : Dev nD) (t : Fin cfg0.N) : (dats m 0 c).after 2 t = iblk m c 2 t := by dsimp only [dats]
theorem after_o (c : Dev nD) (t : Fin cfg0.N) : (dats m 0 c).after 3 t = outAt m c (t.val % 125) := by dsimp only [dats]

theorem before_x (c : Dev nD) (t : Fin cfg0.N) (d) : (dats m 0 c).before 0 t d = iblk m c 0 t :=
  before0_0_of m (dats m 0 c) (A_eq m c 0) (after_x m c) t d
theorem before_a (c : Dev nD) (t : Fin cfg0.N) (d) : (dats m 0 c).before 1 t d = iblk m c 1 t :=
  before0_1_of m (dats m 0 c) (A_eq m c 1) (after_a m c) t d
theorem before_w (c : Dev nD) (t : Fin cfg0.N) (d) : (dats m 0 c).before 2 t d = iblk m c 2 t :=
  before0_2_of m (dats m 0 c) (A_eq m c 2) (after_w m c) t d

/-! ## The output window -/

/-- In the first sweep the output's block is not written back. -/
theorem no_flush (t : Fin cfg0.N) (ht : t.val < 125) : (cfg0.win 3).flush t = false :=
  (by decide +kernel : ∀ t : Fin grid0.N, t.val < 125 → win0_3.flush t = false) t ht

/-- In the first sweep the body leaves the output's buffer alone. -/
theorem idle_o (t : Fin cfg0.N) (ht : t.val < 125) : cfg0.idle 3 (cfg0.grid.coords t) = true := by
  have h : ¬InWrite (grid0.coords t) := fun h => absurd ((inWrite_iff t).mp h) (by omega)
  show (!(k0_cond4 (grid0.coords t) == 1#1)) = true
  rw [Bool.not_eq_true', beq_eq_false_iff_ne]
  exact h

/-- In the second sweep it does not. -/
theorem live_o (t : Fin cfg0.N) (ht : 125 ≤ t.val) : cfg0.idle 3 (cfg0.grid.coords t) = false := by
  have h : InWrite (grid0.coords t) := (inWrite_iff t).mpr ht
  show (!(k0_cond4 (grid0.coords t) == 1#1)) = false
  rw [Bool.not_eq_false', beq_iff_eq]
  exact h

end Cert.LogSoftmax

end
-- ==== Proof.Ideal.Body.lean ====
module

public import proofs.«01_k».proof.Proof.Ideal.Data

@[expose] public section

/-!
  The body at every grid point keeps the invariant; so the program runs, leaves its arguments unchanged and
  its semaphores at zero, and ends with the arrays at the contents the proof data name.
-/

set_option maxRecDepth 16384

noncomputable section

namespace Cert.LogSoftmax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at a point, -/
def pre (c : Dev nD) (t : Fin cfg0.N) : sProp 𝕄 :=
  iprop((dats m 0 c).Φ t.castSucc ∗ (dats m 0 c).owesAt () t.castSucc
    ∗ (∃ d, owns (c : Thread nD τ) (stX t) fullShare ((dats m 0 c).before 0 t d))
    ∗ (∃ d, owns (c : Thread nD τ) (stA t) fullShare ((dats m 0 c).before 1 t d))
    ∗ (∃ d, owns (c : Thread nD τ) (stW t) fullShare ((dats m 0 c).before 2 t d))
    ∗ (∃ d, owns (c : Thread nD τ) (stO t) fullShare ((dats m 0 c).before 3 t d)))

/-- and what it gives back. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_x (c : Dev nD) (t : Fin cfg0.N) :
    (dats m 0 c).leavesExact 0 t = owns (c : Thread nD τ) (stX t) fullShare (iblk m c 0 t) := by
  unfold Dat.leavesExact; rw [show cfg0.idle 0 (cfg0.grid.coords t) = false from rfl, after_x]
theorem leaves_a (c : Dev nD) (t : Fin cfg0.N) :
    (dats m 0 c).leavesExact 1 t = owns (c : Thread nD τ) (stA t) fullShare (iblk m c 1 t) := by
  unfold Dat.leavesExact; rw [show cfg0.idle 1 (cfg0.grid.coords t) = false from rfl, after_a]
theorem leaves_w (c : Dev nD) (t : Fin cfg0.N) :
    (dats m 0 c).leavesExact 2 t = owns (c : Thread nD τ) (stW t) fullShare (iblk m c 2 t) := by
  unfold Dat.leavesExact; rw [show cfg0.idle 2 (cfg0.grid.coords t) = false from rfl, after_w]
/-- The output's buffer is given back as it was found in the first sweep, -/
theorem leaves_o_idle (c : Dev nD) (t : Fin cfg0.N) (ht : t.val < 125) :
    (dats m 0 c).leavesExact 3 t = iprop(∃ d, owns (c : Thread nD τ) (stO t) fullShare ((dats m 0 c).before 3 t d)) :=
  (dats m 0 c).leavesExact_idle 3 t (idle_o t ht) (no_flush t ht)
/-- and at the tile's output block in the second. -/
theorem leaves_o_live (c : Dev nD) (t : Fin cfg0.N) (ht : 125 ≤ t.val) :
    (dats m 0 c).leavesExact 3 t = owns (c : Thread nD τ) (stO t) fullShare (outAt m c (t.val % 125)) := by
  unfold Dat.leavesExact; rw [live_o t ht, after_o]

theorem inv_castSucc (c : Dev nD) (t : Fin cfg0.N) : (dats m 0 c).Φ t.castSucc = Inv m c t.val := by
  dsimp only [dats]; rfl

/-- The number of a point that is not the first is a successor. -/
theorem pred_eq {n : ℕ} (h : n ≠ 0) : n = (n - 1) + 1 := by omega

set_option maxHeartbeats 3200000 in
/-- The body at any point, from what it is called with, runs to what it gives back. -/
theorem sound_body (c : Dev nD) (t : Fin cfg0.N) :
    pre m c t ⊢ wp frame (wpE (defs₀ (F := F)) Variants.none c none) Set.univ (bodyAt0 t) (fun _ => post m c t) := by
  unfold pre post bodyAt0
  simp only [before_x, before_a, before_w]
  rw [show (dats m 0 c).owesAt () t.succ = (dats m 0 c).owesAt () t.castSucc from rfl,
    show (dats m 0 c).Φ t.succ = Inv m c (t.val + 1) from rfl, inv_castSucc, leaves_x, leaves_a, leaves_w, inv_succ m c t.val]
  have hN := point_lt t
  by_cases h0 : t.val < 125
  · by_cases hz : t.val = 0
    · rw [leaves_o_idle m c t h0]
      rw [hz, show Inv m c 0 = Pipeline.ΦA spec0 c from rfl, start_eq]
      iintro ⟨⟨⟨⟨%b, HS0⟩, ⟨%mx, HS1⟩, ⟨%sm, HS2⟩, ⟨%ls, HS3⟩⟩, Hg⟩, Ho, ⟨%d0, H0⟩, ⟨%d1, H1⟩, ⟨%d2, H2⟩, ⟨%d3, H3⟩⟩
      iapply (run_first c (grid0.coords t) _ _ _ _ _ _ _ _ _ _ _ _ _ _ _ _ ((inSweep_iff t).mpr h0) ((atFirst_iff t).mpr (by omega)) (fun h => absurd ((atLast_iff t).mp h) (by omega)) (fun h => absurd ((inWrite_iff t).mp h) (by omega)) (iblk m c 0 t) (iblk m c 1 t) (iblk m c 2 t) _ b mx sm ls Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, HS0, HS1, HS2, HS3⟩
      isplitl [HS0 HS1 HS2 HS3 Hg]
      · iexists _, _, _, _
        isplitr; swap
        · isplitl [HS0]; · iexact HS0
          isplitl [HS1]; · iexact HS1
          isplitl [HS2]; · iexact HS2
          isplitl [HS3]; · iexact HS3
          iexact Hg
        · ipureintro
          exact (hz ▸ good_first m c t hz b ls)
      isplitl [Ho]; · iexact Ho
      isplitl [H0]; · iexact H0
      isplitl [H1]; · iexact H1
      isplitl [H2]; · iexact H2
      iexists d3
      iexact H3
    · by_cases hl : t.val = 124
      · rw [leaves_o_idle m c t h0]
        obtain ⟨n, hn⟩ : ∃ n, t.val = n + 1 := ⟨t.val - 1, by omega⟩
        rw [show Inv m c t.val = Inv m c (n + 1) from congrArg _ hn, inv_succ m c n]
        iintro ⟨⟨%b, %mx, %sm, %ls, %hG, HS0, HS1, HS2, HS3, Hg⟩, Ho, ⟨%d0, H0⟩, ⟨%d1, H1⟩, ⟨%d2, H2⟩, ⟨%d3, H3⟩⟩
        iapply (run_last c (grid0.coords t) _ _ _ _ _ _ _ _ _ _ _ _ _ _ _ _ ((inSweep_iff t).mpr h0) (fun h => absurd ((atFirst_iff t).mp h) (by omega)) ((atLast_iff t).mpr (by omega)) (fun h => absurd ((inWrite_iff t).mp h) (by omega)) (iblk m c 0 t) (iblk m c 1 t) (iblk m c 2 t) _ b mx sm ls Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HS3]; · iexact HS3
        iintro ⟨H0, H1, H2, H3, HS0, HS1, HS2, HS3⟩
        isplitl [HS0 HS1 HS2 HS3 Hg]
        · iexists _, _, _, _
          isplitr; swap
          · isplitl [HS0]; · iexact HS0
            isplitl [HS1]; · iexact HS1
            isplitl [HS2]; · iexact HS2
            isplitl [HS3]; · iexact HS3
            iexact Hg
          · ipureintro
            exact good_last m c t n hn hl hG
        isplitl [Ho]; · iexact Ho
        isplitl [H0]; · iexact H0
        isplitl [H1]; · iexact H1
        isplitl [H2]; · iexact H2
        iexists d3
        iexact H3
      · rw [leaves_o_idle m c t h0]
        obtain ⟨n, hn⟩ : ∃ n, t.val = n + 1 := ⟨t.val - 1, by omega⟩
        rw [show Inv m c t.val = Inv m c (n + 1) from congrArg _ hn, inv_succ m c n]
        iintro ⟨⟨%b, %mx, %sm, %ls, %hG, HS0, HS1, HS2, HS3, Hg⟩, Ho, ⟨%d0, H0⟩, ⟨%d1, H1⟩, ⟨%d2, H2⟩, ⟨%d3, H3⟩⟩
        iapply (run_between c (grid0.coords t) _ _ _ _ _ _ _ _ _ _ _ _ _ _ _ _ ((inSweep_iff t).mpr h0) (fun h => absurd ((atFirst_iff t).mp h) (by omega)) (fun h => absurd ((atLast_iff t).mp h) (by omega)) (fun h => absurd ((inWrite_iff t).mp h) (by omega)) (iblk m c 0 t) (iblk m c 1 t) (iblk m c 2 t) _ b mx sm ls Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HS3]; · iexact HS3
        iintro ⟨H0, H1, H2, H3, HS0, HS1, HS2, HS3⟩
        isplitl [HS0 HS1 HS2 HS3 Hg]
        · iexists _, _, _, _
          isplitr; swap
          · isplitl [HS0]; · iexact HS0
            isplitl [HS1]; · iexact HS1
            isplitl [HS2]; · iexact HS2
            isplitl [HS3]; · iexact HS3
            iexact Hg
          · ipureintro
            exact good_next m c t n hn (by omega) hG
        isplitl [Ho]; · iexact Ho
        isplitl [H0]; · iexact H0
        isplitl [H1]; · iexact H1
        isplitl [H2]; · iexact H2
        iexists d3
        iexact H3
  · have h0 : 125 ≤ t.val := by omega
    rw [leaves_o_live m c t h0]
    obtain ⟨n, hn⟩ : ∃ n, t.val = n + 1 := ⟨t.val - 1, by omega⟩
    rw [show Inv m c t.val = Inv m c (n + 1) from congrArg _ hn, inv_succ m c n]
    iintro ⟨⟨%b, %mx, %sm, %ls, %hG, HS0, HS1, HS2, HS3, Hg⟩, Ho, ⟨%d0, H0⟩, ⟨%d1, H1⟩, ⟨%d2, H2⟩, ⟨%d3, H3⟩⟩
    iapply (run_write c (grid0.coords t) _ _ _ _ _ _ _ _ _ _ _ _ _ _ _ _ (fun h => absurd ((inSweep_iff t).mp h) (by omega)) ((inWrite_iff t).mpr h0) (iblk m c 0 t) (iblk m c 1 t) (iblk m c 2 t) _ b mx sm ls Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hg]
    · iexists _, _, _, _
      isplitr; swap
      · isplitl [HS0]; · iexact HS0
        isplitl [HS1]; · iexact HS1
        isplitl [HS2]; · iexact HS2
        isplitl [HS3]; · iexact HS3
        iexact Hg
      · ipureintro
        exact (show Good m c t.val b mx sm ls by rw [hn]; exact good_write m c n (by omega) hG)
    isplitl [Ho]; · iexact Ho
    isplitl [H0]; · iexact H0
    isplitl [H1]; · iexact H1
    isplitl [H2]; · iexact H2
    rw [← out_eq m c t n (by omega) hG]
    iexact H3

/-- The body table's row at a point is the body. -/
theorem row_eq (t : Fin cfg0.N) : defs₀ (F := F) .tc cfg0.body (cfg0.bodyArgs t (cfg0.slots t)) = bodyAt0 t := by
  unfold defs₀; rw [Defs.onTc_tc]

/-- The obligation on the body, at every point. -/
theorem body_ok (c : Dev nD) : BodyObligation (dats (F := F) m 0 c) (defs₀ (F := F)) Variants.none () Set.univ := fun t => by
  rw [bigSep_W0, bigSep_W0, row_eq]
  exact triple_restated (sound_body m c t) rfl .rfl fun _ => .rfl

/-- The invariant holds at the start. -/
theorem inv_in (c : Dev nD) : Pipeline.ΦA spec0 c ⊢ (dats m 0 c).Φ 0 := by
  rw [show (dats m 0 c).Φ 0 = Pipeline.ΦA spec0 c from rfl]

/-- After the last point the invariant gives the scratch buffers back. -/
theorem inv_out (c : Dev nD) : (dats m 0 c).Φ (Fin.last cfg0.N) ⊢ Pipeline.ΦA spec0 c := by
  rw [show (dats m 0 c).Φ (Fin.last cfg0.N) = Inv m c grid0.N from rfl, N_0, inv_succ m c 249, start_eq]
  iintro ⟨%b, %mx, %sm, %ls, %hG, HS0, HS1, HS2, HS3, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
set_option maxHeartbeats 800000 in
/-- The program runs to the contents that the proof data name, with every semaphore at zero. -/
theorem run_all : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_ok m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The program leaves its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.LogSoftmax

end
-- ==== Proof.Ideal.Array.lean ====
module

public import proofs.«01_k».proof.Proof.Ideal.Body

@[expose] public section

/-!
  What the arrays hold after the run: the call's result is made of the tiles' output blocks, and the program's
  result is that array with its two inner axes merged.
-/

set_option maxRecDepth 16384

noncomputable section

namespace Cert.LogSoftmax

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

variable (m : (ℓ : Loc nD τ sig) → Buf (Elt F) ℓ) (ρ : Dev nD → PrngReg)

/-- The block indices of the windows at a point of the grid. -/
theorem idx : ∀ t : Fin cfg0.N, win0_0.index t = ![0, 0]
    ∧ (t.val < 125 → win0_1.index t = ![0, t.val, 0] ∧ win0_2.index t = ![t.val, 0])
    ∧ (125 ≤ t.val → win0_3.index t = ![0, t.val % 125, 0]) :=
  (by decide +kernel : ∀ t : Fin grid0.N, _)

/-- Only the points of the second sweep write a block back. -/
theorem flush_late : ∀ t : Fin cfg0.N, (cfg0.win 3).flush t = true → 125 ≤ t.val :=
  (by decide +kernel : ∀ t : Fin grid0.N, win0_3.flush t = true → 125 ≤ t.val)

/-- The call's result: row `j` of its middle axis is row `j % 8` of tile `j / 8`. -/
def callOut (c : Dev nD) : Vec F S8x1000x1000 .f32 := fun y =>
  outAt m c ((y 1).val / 8) (ix3 (y 0) ⟨(y 1).val % 8, Nat.mod_lt _ (by decide)⟩ (y 2))

/-- The call's result array after the run. -/
theorem arr_out (c : Dev nD) : (dats m 0 c).arrAt 3 (cfgs 0).N = callOut m c := by
  refine (dats m 0 c).arrAt_eq_of_covers 3 _ (by decide +kernel) fun t hf y => ?_
  have ht := flush_late t hf
  blk_simp
  rw [after_o]
  have hi := (idx t).2.2 ht
  have h0 : (y 0).val < 8 := (y 0).isLt
  have h1 : (y 1).val < 8 := (y 1).isLt
  have h2 : (y 2).val < 1000 := (y 2).isLt
  have e : (((cfg0.win 3).blk t).view.emb y : S8x1000x1000.Idx) = ix3 (y 0) ⟨t.val % 125 * 8 + (y 1).val, by omega⟩ (y 2) := by
    blk_ext [hi]
  refine Eq.trans ?_ (congrArg (callOut m c) e).symm
  have ej : (t.val % 125 * 8 + (y 1).val) / 8 = t.val % 125 := by omega
  have ek : (t.val % 125 * 8 + (y 1).val) % 8 = (y 1).val := by omega
  have ey : y = ix3 (y 0) (y 1) (y 2) := eq_ix3 y
  show outAt m c (t.val % 125) y
    = outAt m c ((t.val % 125 * 8 + (y 1).val) / 8) (ix3 (y 0) ⟨(t.val % 125 * 8 + (y 1).val) % 8, Nat.mod_lt _ (by decide)⟩ (y 2))
  simp only [ej, ek]
  exact congrArg (outAt m c (t.val % 125)) ey

/-- The program's result after the run. -/
theorem tail_out (c : Dev nD) : Pipeline.afterTail₀ cfgs (dats m) 0 (V0 m) [hostOps1] c main_v2
    = (shapeCast S8x1000000 (callOut m c) shapeCasts_S8x1000x1000_S8x1000000 : Vec F S8x1000000 .f32) := by
  unfold Pipeline.afterTail₀
  have h : Pipeline.withArrays (cfgs 0).spec c (V0 m c) (fun w => (dats m 0 c).arrAt w (cfgs 0).N) (Proc.devRef .tc main_v1)
      = callOut m c :=
    (Pipeline.withArrays_arr spec0 (by decide) c (V0 m c) (fun w => (dats m 0 c).arrAt w (cfgs 0).N) 3).trans (arr_out m c)
  simp only [hostOps1, List.flatten_cons, List.flatten_nil, List.append_nil]
  after_results_simp
  rw [h]
  rfl

/-- The available actions as the call takes them. -/
theorem V_avail (c : Dev nD) : V m c main_v0
    = (shapeCast S8x1000x1000 (m ((c : Thread nD τ).loc main_arg1)) shapeCasts_S8x1000000_S8x1000x1000 : Vec F S8x1000x1000 .i32) := by
  show StableHlo.after [hostOps0].flatten (fun b => m (c, b)) (Proc.devRef .tc main_v0) = _
  simp only [hostOps0, List.flatten_cons, List.flatten_nil, List.append_nil]
  after_results_simp
  rfl

/-- The block of `x` is `x`. -/
theorem blkX_eq (c : Dev nD) (n : ℕ) : blkX m c n = m ((c : Thread nD τ).loc main_arg0) := by
  unfold blkX
  blk_ext! [iblk, V_main_arg0, idx (ptOf n)]

/-- Tile `n` of the available actions, -/
theorem blkA_eq (c : Dev nD) (n : ℕ) (hn : n < 125) (y : S8x8x1000.Idx) : blkA m c n y
    = (m ((c : Thread nD τ).loc main_arg1) : Vec F S8x1000000 .i32) (ix2 (y 0) ⟨8000 * n + 1000 * (y 1).val + (y 2).val, by
        have h1 : (y 1).val < 8 := (y 1).isLt
        have h2 : (y 2).val < 1000 := (y 2).isLt
        omega⟩) := by
  have hp : (ptOf n).val = n := Nat.mod_eq_of_lt (by omega)
  have hi := (idx (ptOf n)).2.1 (by omega)
  rw [hp] at hi
  have h0 : (y 0).val < 8 := (y 0).isLt
  have h1 : (y 1).val < 8 := (y 1).isLt
  have h2 : (y 2).val < 1000 := (y 2).isLt
  have e : (((cfg0.win 1).blk (ptOf n)).view.emb y : S8x1000x1000.Idx) = ix3 (y 0) ⟨n * 8 + (y 1).val, by omega⟩ (y 2) := by
    blk_ext [hi.1]
  refine (congrArg (V m c main_v0) e).trans ?_
  rw [V_avail]
  pointwise
  blk_ext

/-- and of the weights. -/
theorem blkW_eq (c : Dev nD) (n : ℕ) (hn : n < 125) (y : S8000x64.Idx) : blkW m c n y
    = (m ((c : Thread nD τ).loc main_arg2) : Vec F S1000000x64 .f32) (ix2 ⟨8000 * n + (y 0).val, by
        have h0 : (y 0).val < 8000 := (y 0).isLt
        omega⟩ (y 1)) := by
  have hp : (ptOf n).val = n := Nat.mod_eq_of_lt (by omega)
  have hi := (idx (ptOf n)).2.1 (by omega)
  rw [hp] at hi
  have h0 : (y 0).val < 8000 := (y 0).isLt
  have h1 : (y 1).val < 64 := (y 1).isLt
  have e : (((cfg0.win 2).blk (ptOf n)).view.emb y : S1000000x64.Idx) = ix2 ⟨8000 * n + (y 0).val, by omega⟩ (y 1) := by
    blk_ext [hi.2]
  refine (congrArg (V m c main_arg2) e).trans ?_
  rw [V_main_arg2]
  rfl

/-- The program runs to its result array as `callOut` names it, its arguments unchanged. -/
theorem run_out : θ_run defs (onTc (τ := τ) (main (F := F))) ⟨m, fun _ => 0, ρ⟩ (fun r => ∀ c : Dev nD,
      r.2.mem ((c.tc : Thread nD τ).loc main_v2) = (shapeCast S8x1000000 (callOut m c) shapeCasts_S8x1000x1000_S8x1000000 : Vec F S8x1000000 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1.1 c).2 main_v2 (Pipeline.mem_restRefs_of main_v2 (by decide) (by decide))).trans (tail_out m c), h.2.1 c⟩)
    (θ_run_and (run_all m ρ) (frame m ρ))

end Cert.LogSoftmax

end
-- ==== Proof.Math.lean ====
module

public import Idealize.ShloMosaic.Lib.Pointwise

@[expose] public section

/-!
  Real numbers among the extended reals: the sums, maxima, exponentials and logarithms that a softmax over
  finite logits takes, and the recursion of a running sum of exponentials.
-/

noncomputable section

namespace Cert.LogSoftmax

open Idealize.ShloMosaic

/-- The extended real is a real number. -/
def IsReal (x : EReal) : Prop := ∃ r : ℝ, x = (r : EReal)

theorem isReal_of_ne {x : EReal} (h1 : x ≠ ⊥) (h2 : x ≠ ⊤) : IsReal x := ⟨x.toReal, (EReal.coe_toReal h2 h1).symm⟩

theorem IsReal.ne_top {x : EReal} (h : IsReal x) : x ≠ ⊤ := by
  obtain ⟨r, rfl⟩ := h
  exact EReal.coe_ne_top r

theorem IsReal.ne_bot {x : EReal} (h : IsReal x) : x ≠ ⊥ := by
  obtain ⟨r, rfl⟩ := h
  exact EReal.coe_ne_bot r

/-- Where the magnitude of an extended real lies below infinity, it is a real number. -/
theorem isReal_of_abs_lt {x : EReal} (h : max x (-x) < ⊤) : IsReal x := by
  have h' := max_lt_iff.mp h
  refine isReal_of_ne (fun e => ?_) h'.1.ne
  rw [e, EReal.neg_bot] at h'
  exact absurd h'.2 (lt_irrefl _)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers, taken among the extended reals. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (h : ∀ i, IsReal (f i)) : IsReal (∑ i ∈ s, f i) := by
  choose g hg using h
  exact ⟨∑ i ∈ s, g i, by rw [← sum_coe]; exact Finset.sum_congr rfl fun i _ => hg i⟩

/-- The greatest of a real number and a finite family of real numbers is a real number, whatever lies below infinity
the family's maximum starts from. -/
theorem isReal_max_fold {ι : Type*} [Fintype ι] {a b : EReal} {f : ι → EReal} (ha : IsReal a) (hb : b < ⊤) (h : ∀ i, IsReal (f i)) :
    IsReal (max a (Finset.fold max b f Finset.univ)) := by
  refine isReal_of_ne (fun e => ?_) ?_
  · exact ha.ne_bot (le_bot_iff.mp (e ▸ le_max_left a _))
  · exact (max_lt ha.ne_top.lt_top ((Finset.fold_max_lt _).mpr ⟨hb, fun i _ => (h i).ne_top.lt_top⟩)).ne

theorem IsReal.max {x y : EReal} (hx : IsReal x) (hy : IsReal y) : IsReal (max x y) := by
  rcases max_choice x y with h | h <;> rw [h] <;> assumption

/-- The exponential of a difference of two real numbers. -/
theorem exp_sub (a b : ℝ) : Ideal.exp ((a : EReal) - (b : EReal)) = ((Real.exp a * Real.exp (-b) : ℝ) : EReal) := by
  rw [← EReal.coe_sub, ← Real.exp_add, ← sub_eq_add_neg]
  rfl

/-- A sum of exponentials of differences to one number. -/
theorem sum_exp_sub {ι : Type*} (s : Finset ι) (f : ι → ℝ) (b : ℝ) :
    (∑ i ∈ s, Ideal.exp ((f i : EReal) - (b : EReal))) = (((∑ i ∈ s, Real.exp (f i)) * Real.exp (-b) : ℝ) : EReal) := by
  rw [Finset.sum_mul, ← sum_coe]
  exact Finset.sum_congr rfl fun i _ => exp_sub (f i) b

/-- One number added to the logarithm of a positive sum scaled by its negated exponential: the number cancels. -/
theorem log_scaled {z : ℝ} (hz : 0 < z) (b : ℝ) :
    Ideal.log ((z * Real.exp (-b) : ℝ) : EReal) = ((Real.log z - b : ℝ) : EReal) := by
  have hp : 0 < z * Real.exp (-b) := mul_pos hz (Real.exp_pos _)
  show (if z * Real.exp (-b) ≤ 0 then (⊥ : EReal) else ((Real.log (z * Real.exp (-b)) : ℝ) : EReal)) = _
  rw [if_neg (not_le.mpr hp), Real.log_mul hz.ne' (Real.exp_pos _).ne', Real.log_exp, sub_eq_add_neg]

/-- A running sum that was kept relative to one maximum, brought to the next one and added to. -/
theorem rescale (z t a b : ℝ) : ((z * Real.exp (-a) : ℝ) : EReal) * Ideal.exp ((a : EReal) - (b : EReal)) + ((t * Real.exp (-b) : ℝ) : EReal)
    = (((z + t) * Real.exp (-b) : ℝ) : EReal) := by
  rw [exp_sub, ← EReal.coe_mul, ← EReal.coe_add]
  congr 1
  have h : Real.exp (-a) * Real.exp a = 1 := by rw [← Real.exp_add, neg_add_cancel, Real.exp_zero]
  linear_combination (z * Real.exp (-b)) * h

/-- A sum over a range, cut into pieces of one length. -/
theorem sum_range_pieces (f : ℕ → ℝ) (q : ℕ) : ∀ p : ℕ, ∑ a ∈ Finset.range (q * p), f a
    = ∑ i ∈ Finset.range p, ∑ j ∈ Finset.range q, f (q * i + j)
  | 0 => by simp
  | p + 1 => by rw [Nat.mul_succ, Finset.sum_range_add, sum_range_pieces f q p, Finset.sum_range_succ]

end Cert.LogSoftmax

end
-- ==== Proof.Ideal.Tile.lean ====
module

public import proofs.«01_k».proof.Proof.Ideal.Array
public import proofs.«01_k».proof.Proof.Math

@[expose] public section

/-!
  What one tile computes over the extended reals: its logits, and the step of the running maximum and of the
  running sum, row by row.
-/

set_option maxRecDepth 16384

noncomputable section

namespace Cert.LogSoftmax

open Cert.KernelIdeal Cert.KernelIdeal.Gen
open Idealize.ShloMosaic Idealize.ShloMosaic.TcCoe

/-- The logit that an unavailable action gets. -/
abbrev masked : EReal := Ideal.ofBits .f32 0xD01502F9#32

/-- It is a real number. -/
theorem isReal_masked : IsReal masked := by
  show IsReal (Ideal.ieee 8 23 0xD01502F9#32)
  unfold Ideal.ieee
  simp only [show (BitVec.extractLsb' 23 8 0xD01502F9#32).toNat = 160 from by decide]
  rw [if_neg (by decide), if_neg (by decide)]
  exact ⟨_, rfl⟩

/-- The number the running maximum starts from is a real number, too. -/
theorem isReal_floor : IsReal (Ideal.ofBits .f32 0xFF61B1E6#32) := by
  show IsReal (Ideal.ieee 8 23 0xFF61B1E6#32)
  unfold Ideal.ieee
  simp only [show (BitVec.extractLsb' 23 8 0xFF61B1E6#32).toNat = 254 from by decide]
  rw [if_neg (by decide), if_neg (by decide)]
  exact ⟨_, rfl⟩

/-- A row's maximum is taken from negative infinity on. -/
theorem negInf : Ideal.ofBits .f32 0xFF800000#32 = ⊥ := by
  show Ideal.ieee 8 23 0xFF800000#32 = ⊥
  unfold Ideal.ieee
  simp only [show (BitVec.extractLsb' 23 8 0xFF800000#32).toNat = 255 from by decide,
    show (BitVec.extractLsb' 0 23 0xFF800000#32).toNat = 0 from by decide,
    show (BitVec.extractLsb' (8 + 23) 1 0xFF800000#32 == 1#1) = true from by decide]
  rw [if_pos (by decide)]
  rfl

variable (x0 : Vec Ideal S8x64 .f32) (x1 : Vec Ideal S8x8x1000 .i32) (x2 : Vec Ideal S8000x64 .f32)

/-- The logit of one action of the tile. -/
theorem logits_apply (k r : Fin 8) (q : Fin 1000) : logits x0 x1 x2 k (ix2 r q)
    = Scalar.select (IntOp.cmpi .eq (x1 (ix3 r k q)) 0#32) masked
        (∑ e : Fin 64, (x0 (ix2 r e) : EReal) * (x2 (ix2 ⟨1000 * k.val + q.val, by have := k.isLt; have := q.isLt; omega⟩ e) : EReal)) := by
  pointwise [logits, k0_pay11, k0_pay6, wRows, aRow]

/-- Over real logits the running maximum stays a real number. -/
theorem newMax_real (mc : Vec Ideal S8x1 .f32) (r : Fin 8) (hl : ∀ (k : Fin 8) (q : Fin 1000), IsReal (logits x0 x1 x2 k (ix2 r q)))
    (hm : IsReal (mc (ix2 r 0))) : IsReal (newMax x0 x1 x2 mc (ix2 r 0)) := by
  pointwise [newMax, k0_pay24]
  refine isReal_max_fold hm (by rw [negInf]; exact bot_lt_top) fun q => ?_
  exact (((hl 0 q).max (hl 1 q)).max ((hl 2 q).max (hl 3 q))).max (((hl 4 q).max (hl 5 q)).max ((hl 6 q).max (hl 7 q)))

/-- The running sum, kept relative to the running maximum, takes in the exponentials of the tile's logits. -/
theorem newSum_eq (mc sc : Vec Ideal S8x1 .f32) (r : Fin 8) (l : Fin 8 → Fin 1000 → ℝ)
    (hl : ∀ (k : Fin 8) (q : Fin 1000), logits x0 x1 x2 k (ix2 r q) = (l k q : EReal)) (a b z : ℝ) (ha : mc (ix2 r 0) = (a : EReal))
    (hb : newMax x0 x1 x2 mc (ix2 r 0) = (b : EReal)) (hz : sc (ix2 r 0) = ((z * Real.exp (-a) : ℝ) : EReal)) :
    newSum x0 x1 x2 mc sc (ix2 r 0) = (((z + ∑ k, ∑ q, Real.exp (l k q)) * Real.exp (-b) : ℝ) : EReal) := by
  have e : k0_pay24 (k0_pay6 x0) (logits x0 x1 x2 0) (logits x0 x1 x2 1) (logits x0 x1 x2 2) (logits x0 x1 x2 3)
      (logits x0 x1 x2 4) (logits x0 x1 x2 5) (logits x0 x1 x2 6) (wRows x2 7) (aRow x1 7) mc (ix2 r 0) = (b : EReal) := hb
  pointwise [newSum, k0_pay29, k0_pay25, k0_pay26, k0_pay27]
  rw [← rescale z _ a b, hz, ha]
  simp only [e, hb, hl, sum_exp_sub]
  congr 1
  simp only [← EReal.coe_add]
  congr 1
  rw [Fin.sum_univ_eight]
  ring

end Cert.LogSoftmax

end
-- ==== Proof.Ideal.Normaliser.lean ====
module

public import proofs.«01_k».proof.Proof.Ideal.Tile

@[expose] public section

/-!
  What the running maximum and the running sum hold after each tile, the normaliser they end in, and the
  result array, in terms of the arguments.
-/

set_option maxRecDepth 16384

noncomputable section

namespace Cert.LogSoftmax

open Cert.KernelIdeal Cert.KernelIdeal.Gen
open Idealize.ShloMosaic Idealize.ShloMosaic.TcCoe

/-- The logit of action `a` for row `r`: the product of the row with the action's weights, masked where the action is
not available. -/
def logit (x : Vec Ideal S8x64 .f32) (av : Vec Ideal S8x1000000 .i32) (w : Vec Ideal S1000000x64 .f32) (r : Fin 8) (a : Fin 1000000) : EReal :=
  Scalar.select (IntOp.cmpi .eq (av (ix2 r a)) 0#32) masked (∑ e : Fin 64, (x (ix2 r e) : EReal) * (w (ix2 a e) : EReal))

/-- Over finite inputs and weights every logit is a real number. -/
theorem isReal_logit {x : Vec Ideal S8x64 .f32} {w : Vec Ideal S1000000x64 .f32} (hx : ∀ i, IsReal (x i)) (hw : ∀ i, IsReal (w i))
    (av : Vec Ideal S8x1000000 .i32) (r : Fin 8) (a : Fin 1000000) : IsReal (logit x av w r a) := by
  unfold logit Scalar.select
  split
  · exact isReal_masked
  · exact IsReal.sum _ fun e => (hx _).mul (hw _)

/-- The logits of a row as real numbers, counted by the natural numbers. -/
def realLogit (x : Vec Ideal S8x64 .f32) (av : Vec Ideal S8x1000000 .i32) (w : Vec Ideal S1000000x64 .f32) (r : Fin 8) (a : ℕ) : ℝ :=
  (logit x av w r ⟨a % 1000000, Nat.mod_lt _ (by decide)⟩).toReal

theorem logit_eq {x : Vec Ideal S8x64 .f32} {w : Vec Ideal S1000000x64 .f32} (hx : ∀ i, IsReal (x i)) (hw : ∀ i, IsReal (w i))
    (av : Vec Ideal S8x1000000 .i32) (r : Fin 8) (a : Fin 1000000) : logit x av w r a = (realLogit x av w r a.val : EReal) := by
  have h := isReal_logit hx hw av r a
  have e : (⟨a.val % 1000000, Nat.mod_lt _ (by decide)⟩ : Fin 1000000) = a := Fin.ext (Nat.mod_eq_of_lt a.isLt)
  unfold realLogit
  rw [e, EReal.coe_toReal h.ne_top h.ne_bot]

/-- The sum of the exponentials of a row's first `n` logits. -/
def partSum (x : Vec Ideal S8x64 .f32) (av : Vec Ideal S8x1000000 .i32) (w : Vec Ideal S1000000x64 .f32) (r : Fin 8) (n : ℕ) : ℝ :=
  ∑ a ∈ Finset.range n, Real.exp (realLogit x av w r a)

theorem partSum_pos (x : Vec Ideal S8x64 .f32) (av : Vec Ideal S8x1000000 .i32) (w : Vec Ideal S1000000x64 .f32) (r : Fin 8) {n : ℕ}
    (hn : 0 < n) : 0 < partSum x av w r n :=
  Finset.sum_pos (fun a _ => Real.exp_pos _) (Finset.nonempty_range_iff.mpr hn.ne')

/-- A tile's logits join the partial sum. -/
theorem partSum_tile (x : Vec Ideal S8x64 .f32) (av : Vec Ideal S8x1000000 .i32) (w : Vec Ideal S1000000x64 .f32) (r : Fin 8) (n : ℕ) :
    partSum x av w r (8000 * n) + ∑ k : Fin 8, ∑ q : Fin 1000, Real.exp (realLogit x av w r (8000 * n + 1000 * k.val + q.val))
      = partSum x av w r (8000 * (n + 1)) := by
  unfold partSum
  rw [Nat.mul_succ, Finset.sum_range_add]
  congr 1
  rw [show (8000 : ℕ) = 1000 * 8 from rfl, sum_range_pieces (fun a => Real.exp (realLogit x av w r (1000 * 8 * n + a))) 1000 8,
    Finset.sum_range]
  refine Finset.sum_congr rfl fun k _ => ?_
  rw [Finset.sum_range]
  refine Finset.sum_congr rfl fun q _ => ?_
  rw [Nat.add_assoc]

variable (m : (ℓ : Loc nD τ sig) → Buf (Elt Ideal) ℓ) (c : Dev nD)

/-- The inputs, -/
abbrev argX : Vec Ideal S8x64 .f32 := m ((c : Thread nD τ).loc main_arg0)
/-- the available actions -/
abbrev argA : Vec Ideal S8x1000000 .i32 := m ((c : Thread nD τ).loc main_arg1)
/-- and the weights, as the program is given them. -/
abbrev argW : Vec Ideal S1000000x64 .f32 := m ((c : Thread nD τ).loc main_arg2)

/-- A tile's logits are the arguments' logits at the tile's actions. -/
theorem tileLogits_apply (n : ℕ) (hn : n < 125) (k r : Fin 8) (q : Fin 1000) :
    tileLogits m c n k (ix2 r q) = logit (argX m c) (argA m c) (argW m c) r
      ⟨8000 * n + 1000 * k.val + q.val, by have := k.isLt; have := q.isLt; omega⟩ := by
  unfold tileLogits logit
  rw [logits_apply, blkX_eq, blkA_eq m c n hn]
  congr 1
  refine Finset.sum_congr rfl fun e _ => ?_
  rw [blkW_eq m c n hn]
  have hi : (ix2 (⟨8000 * n + (1000 * k.val + q.val), by have := k.isLt; have := q.isLt; omega⟩ : Fin 1000000) e : S1000000x64.Idx)
      = ix2 ⟨8000 * n + 1000 * k.val + q.val, by have := k.isLt; have := q.isLt; omega⟩ e := by
    congr 1
    exact Fin.ext (Nat.add_assoc _ _ _).symm
  exact congrArg (fun i : S1000000x64.Idx => (argX m c (ix2 r e) : EReal) * (argW m c i : EReal)) hi

section Real

variable (hx : ∀ i, IsReal (argX m c i)) (hw : ∀ i, IsReal (argW m c i))

include hx hw

/-- One tile's step of the running maximum and the running sum. -/
theorem step_real (n : ℕ) (hn : n < 125) (r : Fin 8) (mx sm : Vec Ideal S8x128 .f32) (a : ℝ) (ha : mx (ix2 r 0) = (a : EReal))
    (hs : sm (ix2 r 0) = ((partSum (argX m c) (argA m c) (argW m c) r (8000 * n) * Real.exp (-a) : ℝ) : EReal)) :
    ∃ b : ℝ, maxStep (blkX m c n) (blkA m c n) (blkW m c n) mx (ix2 r 0) = (b : EReal)
      ∧ sumStep (blkX m c n) (blkA m c n) (blkW m c n) mx sm (ix2 r 0)
        = ((partSum (argX m c) (argA m c) (argW m c) r (8000 * (n + 1)) * Real.exp (-b) : ℝ) : EReal) := by
  have hl : ∀ (k : Fin 8) (q : Fin 1000), logits (blkX m c n) (blkA m c n) (blkW m c n) k (ix2 r q)
      = (realLogit (argX m c) (argA m c) (argW m c) r (8000 * n + 1000 * k.val + q.val) : EReal) := fun k q =>
    (tileLogits_apply m c n hn k r q).trans (logit_eq hx hw _ r _)
  obtain ⟨b, hb⟩ := newMax_real (blkX m c n) (blkA m c n) (blkW m c n) (col mx) r (fun k q => ⟨_, hl k q⟩) ⟨a, ha⟩
  refine ⟨b, ?_, ?_⟩
  · pointwise [maxStep, k0_pay28]
    exact hb
  · pointwise [sumStep, k0_pay1]
    rw [← partSum_tile]
    exact newSum_eq (blkX m c n) (blkA m c n) (blkW m c n) (col mx) (col sm) r _ hl a b _ ha hb hs

/-- After tile `n` the running maximum of a row is a real number, and the running sum is the sum of the exponentials of
the logits so far, relative to it. -/
theorem running (r : Fin 8) : ∀ n : ℕ, n < 125 → ∃ b : ℝ, maxAt m c n (ix2 r 0) = (b : EReal)
    ∧ sumAt m c n (ix2 r 0) = ((partSum (argX m c) (argA m c) (argW m c) r (8000 * (n + 1)) * Real.exp (-b) : ℝ) : EReal)
  | 0, hn => by
    obtain ⟨a, ha⟩ := isReal_floor
    refine step_real m c hx hw 0 hn r (k0_pay4 (F := Ideal)) (k0_pay5 (F := Ideal)) a ?_ ?_
    · pointwise [k0_pay4]
      exact ha
    · pointwise [k0_pay5]
      simp [partSum]
  | n + 1, hn => by
    obtain ⟨a, ha, hs⟩ := running r n (by omega)
    exact step_real m c hx hw (n + 1) hn r _ _ a ha hs

/-- The normaliser of a row is the logarithm of the sum of the exponentials of all its logits. -/
theorem lse_real (r : Fin 8) :
    lseAt m c (ix2 r 0) = ((Real.log (partSum (argX m c) (argA m c) (argW m c) r 1000000) : ℝ) : EReal) := by
  obtain ⟨b, hb, hs⟩ := running m c hx hw r 124 (by decide)
  unfold lseAt
  generalize maxAt m c 124 = mx at hb ⊢
  generalize sumAt m c 124 = sm at hs ⊢
  pointwise [k0_pay2]
  rw [hb, hs, show (8000 * (124 + 1) : ℕ) = 1000000 by norm_num, log_scaled (partSum_pos _ _ _ r (by decide)), ← EReal.coe_add]
  congr 1
  ring

/-- The program's result: the logit less the logarithm of the sum of the exponentials of the row's logits. -/
theorem out_real (r : Fin 8) (a : Fin 1000000) :
    (shapeCast S8x1000000 (callOut m c) shapeCasts_S8x1000x1000_S8x1000000 : Vec Ideal S8x1000000 .f32) (ix2 r a)
      = logit (argX m c) (argA m c) (argW m c) r a
        - ((Real.log (partSum (argX m c) (argA m c) (argW m c) r 1000000) : ℝ) : EReal) := by
  pointwise [callOut, outAt, k0_pay38]
  have ha : a.val < 1000000 := a.isLt
  refine (congrArg₂ (fun u v : EReal => u - v) (tileLogits_apply m c (a.val / 1000 / 8) (by omega) _ r _) (lse_real m c hx hw r)).trans ?_
  have e : (⟨8000 * (a.val / 1000 / 8) + 1000 * (a.val / 1000 % 8) + a.val % 1000, by omega⟩ : Fin 1000000) = a :=
    Fin.ext (show 8000 * (a.val / 1000 / 8) + 1000 * (a.val / 1000 % 8) + a.val % 1000 = a.val by omega)
  exact congrArg (fun u => logit (argX m c) (argA m c) (argW m c) r u
    - ((Real.log (partSum (argX m c) (argA m c) (argW m c) r 1000000) : ℝ) : EReal)) e

end Real

end Cert.LogSoftmax

end
-- ==== Proof.Reference.lean ====
module

public import proofs.«01_k».proof.Proof.Ideal.Normaliser
public import proofs.«01_k».proof.Proof.Gen.ReferenceIdeal.Run
public import proofs.«01_k».proof.Proof.Gen.Pre_finite_no_bias

@[expose] public section

/-!
  What the reference computes: the logits of all the actions, less the logarithm of the sum of their exponentials,
  which it takes relative to the row's maximum.
-/

set_option maxRecDepth 16384

noncomputable section

namespace Cert.LogSoftmax

open Cert.ReferenceIdeal Cert.ReferenceIdeal.Gen
open Idealize.ShloMosaic Idealize.ShloMosaic.TcCoe

variable (x : Vec Ideal S8x64 .f32) (av : Vec Ideal S8x1000000 .i32) (w : Vec Ideal S1000000x64 .f32) (b : Vec Ideal S1000000 .f32)

/-- The masked logits. -/
def refLogits : FVec Ideal S8x1000000 .f32 :=
  select (cmpi .eq av (broadcastInDim S8x1000000 ![] bcast_S_S8x1000000 (constantI S_ 32 0#32)))
    (broadcastInDim S8x1000000 ![] bcast_S_S8x1000000 (constant S_ .f32 0xD01502F9#32))
    (addf (Host.dotGeneral (φ₁ := .f32) (φ₂ := .f32) dot_S8x64_S64x1000000_S8x1000000_1_0_0_1_n_n none x
        (transpose S64x1000000 [1, 0] w transposes_S1000000x64_S64x1000000_1_0))
      (broadcastInDim S8x1000000 ![0, 1] bcast_S1x1000000_S8x1000000_0_1 (broadcastInDim S1x1000000 ![1] bcast_S1000000_S1x1000000_1 b)))

variable (l : FVec Ideal S8x1000000 .f32)

/-- The row maxima, -/
def refMax : FVec Ideal S8x1 .f32 :=
  broadcastInDim S8x1 ![0] bcast_S8_S8x1_0 (Host.reduce FloatOps.maximumf l (constant S_ .f32 0xFF800000#32) reducesTo_S8x1000000_S8_d1 h_S_)

/-- and the number the exponentials are taken relative to: the row's maximum where that is finite, otherwise zero. -/
def refShift (v : FVec Ideal S8x1 .f32) : FVec Ideal S8x1 .f32 :=
  select (cmpf .olt (Host.absf v) (broadcastInDim S8x1 ![] bcast_S_S8x1 (constant S_ .f32 0x7F800000#32))) v
    (broadcastInDim S8x1 ![] bcast_S_S8x1 (id (constant S_ .f32 0x00000000#32)))

/-- The reference's result from its logits. -/
def refOut (s : FVec Ideal S8x1 .f32) : FVec Ideal S8x1000000 .f32 :=
  subf l (broadcastInDim S8x1000000 ![0, 1] bcast_S8x1_S8x1000000_0_1
    (addf (Host.log (broadcastInDim S8x1 ![0] bcast_S8_S8x1_0
      (Host.reduceAdd (Host.exp (subf l (broadcastInDim S8x1000000 ![0, 1] bcast_S8x1_S8x1000000_0_1 s)))
        (constant S_ .f32 0x00000000#32) reducesTo_S8x1000000_S8_d1 h_S_))) s))

/-- A logit of the reference, entry by entry. -/
theorem refLogits_apply (r : Fin 8) (a : Fin 1000000) (hb : b (ix1 a) = (0 : EReal)) : refLogits x av w b (ix2 r a) = logit x av w r a := by
  unfold logit
  pointwise [refLogits]
  rw [hb, add_zero]

/-- Infinity, as the reference spells it. -/
theorem posInf : Ideal.ofBits .f32 0x7F800000#32 = ⊤ := by
  show Ideal.ieee 8 23 0x7F800000#32 = ⊤
  unfold Ideal.ieee
  simp only [show (BitVec.extractLsb' 23 8 0x7F800000#32).toNat = 255 from by decide,
    show (BitVec.extractLsb' 0 23 0x7F800000#32).toNat = 0 from by decide,
    show (BitVec.extractLsb' (8 + 23) 1 0x7F800000#32 == 1#1) = false from by decide]
  rw [if_pos (by decide)]
  rfl

/-- The number the exponentials are taken relative to is a real number. -/
theorem refShift_real (v : FVec Ideal S8x1 .f32) (r : Fin 8) : IsReal (refShift v (ix2 r 0)) := by
  pointwise [refShift]
  split
  · rename_i h
    rw [posInf] at h
    exact isReal_of_abs_lt h
  · exact ⟨0, Ideal.ofBits_zero_f32⟩

/-- The reference's result, entry by entry. -/
theorem refOut_apply (s : FVec Ideal S8x1 .f32) (r : Fin 8) (a : Fin 1000000) : refOut l s (ix2 r a)
    = l (ix2 r a) - (Ideal.log (∑ i : Fin 1000000, Ideal.exp (l (ix2 r i) - s (ix2 r 0))) + s (ix2 r 0)) := by
  pointwise [refOut]

/-- The reference's run ends in this term. -/
theorem ref_term (m : (ℓ : Loc nD τ sig) → Buf (Elt Ideal) ℓ) (c : Dev nD) :
    Cert.ReferenceIdeal.Value.res_main_v22 m c
      = refOut (refLogits (m ((c.tc : Thread nD τ).loc main_arg0)) (m ((c.tc : Thread nD τ).loc main_arg1)) (m ((c.tc : Thread nD τ).loc main_arg2)) (m ((c.tc : Thread nD τ).loc main_arg3)))
        (refShift (refMax (refLogits (m ((c.tc : Thread nD τ).loc main_arg0)) (m ((c.tc : Thread nD τ).loc main_arg1)) (m ((c.tc : Thread nD τ).loc main_arg2)) (m ((c.tc : Thread nD τ).loc main_arg3))))) := rfl

end Cert.LogSoftmax

end
-- ==== Proof.Equation.lean ====
module

public import proofs.«01_k».proof.Proof.Reference
public import Idealize.ShloMosaic.Lib.ReduceAll

@[expose] public section

/-!
  The two programs' results are equal: the reference's normaliser, taken relative to the row's maximum, is the
  logarithm of the sum of the exponentials of the row's logits, which is the kernel's.
-/

set_option maxRecDepth 16384

noncomputable section

namespace Cert.LogSoftmax

open Idealize.ShloMosaic Idealize.ShloMosaic.TcCoe
open Cert.ReferenceIdeal (S8x64 S8x1000000 S1000000x64 S1000000 S8x1)

/-- Two bits whose conjunction is one are one. -/
theorem both_one : ∀ p q : BitVec 1, IntOp.andi p q = 1#1 → p = 1#1 ∧ q = 1#1 := by decide

/-- A bit that is one came from a truth. -/
theorem bit_true : ∀ {p : Bool}, BitVec.ofBool p = 1#1 → p = true := by decide

/-- A magnitude found below infinity is a real number's. -/
theorem finite_of_bit {v : EReal} (e : BitVec.ofBool (decide (max v (-v) < Ideal.ofBits .f32 0x7F800000#32)) = 1#1) : IsReal v := by
  have h := of_decide_eq_true (bit_true e)
  rw [posInf] at h
  exact isReal_of_abs_lt h

/-- A scalar has one index. -/
instance : Subsingleton Cert.Pre_finite_no_bias.S_.Idx := ⟨fun _ _ => funext fun i => i.elim0⟩

/-- What the precondition says: inputs and weights are real numbers and the bias is zero. -/
theorem pre_facts (x : Vec Ideal S8x64 .f32) (av : Vec Ideal S8x1000000 .i32) (w : Vec Ideal S1000000x64 .f32) (b : Vec Ideal S1000000 .f32)
    (h : Cert.Pre_finite_no_bias.fn (F := Ideal) x av w b = fun _ => 1#1) :
    (∀ i, IsReal (x i)) ∧ (∀ i, IsReal (w i)) ∧ ∀ i, b i = (0 : EReal) := by
  have h0 := congrFun h ix0
  unfold Cert.Pre_finite_no_bias.fn at h0
  dsimp only at h0
  rw [andi_apply, andi_apply] at h0
  obtain ⟨h1, hb⟩ := both_one _ _ h0
  obtain ⟨hx, hw⟩ := both_one _ _ h1
  refine ⟨fun i => ?_, fun i => ?_, fun i => ?_⟩
  · have e := Host.reduce_andi_all _ _ _ _ _ hx i
    pointwise at e
    exact finite_of_bit e
  · have e := Host.reduce_andi_all _ _ _ _ _ hw i
    pointwise at e
    exact finite_of_bit e
  · have e := Host.reduce_andi_all _ _ _ _ _ hb i
    pointwise at e
    exact of_decide_eq_true (bit_true e)

variable (x : Vec Ideal S8x64 .f32) (av : Vec Ideal S8x1000000 .i32) (w : Vec Ideal S1000000x64 .f32) (b : Vec Ideal S1000000 .f32)

/-- The reference's result: the logit less the logarithm of the sum of the exponentials of the row's logits. -/
theorem ref_real (hx : ∀ i, IsReal (x i)) (hw : ∀ i, IsReal (w i)) (hb : ∀ i, b i = (0 : EReal)) (r : Fin 8) (a : Fin 1000000) :
    refOut (refLogits x av w b) (refShift (refMax (refLogits x av w b))) (ix2 r a)
      = logit x av w r a - ((Real.log (partSum x av w r 1000000) : ℝ) : EReal) := by
  obtain ⟨s, hs⟩ := refShift_real (refMax (refLogits x av w b)) r
  have hl : ∀ i : Fin 1000000, refLogits x av w b (ix2 r i) = (realLogit x av w r i.val : EReal) := fun i =>
    (refLogits_apply x av w b r i (hb _)).trans (logit_eq hx hw av r i)
  rw [refOut_apply, hs]
  simp only [hl]
  rw [sum_exp_sub, Fin.sum_univ_eq_sum_range (fun i => Real.exp (realLogit x av w r i)) 1000000]
  rw [show ∑ i ∈ Finset.range 1000000, Real.exp (realLogit x av w r i) = partSum x av w r 1000000 from rfl,
    log_scaled (partSum_pos x av w r (by decide)), ← EReal.coe_add, sub_add_cancel, logit_eq hx hw av r a]

/-- Under the precondition the kernel's result array is the reference's result. -/
theorem results_eq (m : (ℓ : Loc Cert.KernelIdeal.nD Cert.KernelIdeal.τ Cert.KernelIdeal.sig) → Buf (Elt Ideal) ℓ) (c : Dev Cert.KernelIdeal.nD)
    (h : Cert.Pre_finite_no_bias.fn (F := Ideal) (argX m c) (argA m c) (argW m c) b = fun _ => 1#1) :
    refOut (refLogits (argX m c) (argA m c) (argW m c) b) (refShift (refMax (refLogits (argX m c) (argA m c) (argW m c) b)))
      = (shapeCast Cert.KernelIdeal.S8x1000000 (callOut m c) Cert.KernelIdeal.Gen.shapeCasts_S8x1000x1000_S8x1000000 : Vec Ideal Cert.KernelIdeal.S8x1000000 .f32) := by
  obtain ⟨hx, hw, hb⟩ := pre_facts _ _ _ _ h
  funext y
  obtain ⟨r, a, rfl⟩ : ∃ (r : Fin 8) (a : Fin 1000000), y = ix2 r a := ⟨y 0, y 1, eq_ix2 y⟩
  exact (ref_real _ _ _ _ hx hw hb r a).trans (out_real m c hx hw r a).symm

end Cert.LogSoftmax

end
-- ==== Proof.Floats.lean ====
/- The kernel's program and the ideal kernel's are one text, so the run proved for every reading of the floats is the
   kernel's too. -/
module

public import proofs.«01_k».proof.Defs
public import proofs.«01_k».proof.Proof.Gen.Kernel
public import proofs.«01_k».proof.Proof.Ideal.Body

@[expose] public section

noncomputable section

namespace Cert.LogSoftmax

open Idealize.ShloMosaic Idealize.SL.Sem

variable {F : FTy → Type} [FloatOps F]

/-- The two programs' bodies are one function. -/
theorem bodies_eq : Cert.Kernel.defs₀ (F := F) = Cert.KernelIdeal.defs₀ (F := F) := by
  unfold Cert.Kernel.defs₀ Cert.KernelIdeal.defs₀
  congr 1
  funext l x
  match l with
  | 0 => rfl

/-- So are their tables of bodies and regions. -/
theorem tables_eq : Cert.Kernel.defs (F := F) = Cert.KernelIdeal.defs (F := F) :=
  congrArg (Pipeline.defs Cert.Kernel.pcfgs) bodies_eq

/-- The kernel at floats as words of bits leaves its arguments unchanged and every semaphore at zero. -/
theorem kernel_frame : Cert.quiescent_Kernel (hKernel := Cert.Kernel.Gen.facts) := by
  intro m ρ _
  rw [tables_eq]
  exact frame (F := Bits) m ρ

end Cert.LogSoftmax

end
-- ==== Proof.lean ====
/- The claims about the masked log-softmax over a million actions: the three programs' frames, the ideal kernel as the
   kernel over the extended reals, and the equality of the kernel's result with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_no_bias
public import proofs.«01_k».proof.Proof.Equation
public import proofs.«01_k».proof.Proof.Floats
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its arguments unchanged; it has no semaphores. -/
theorem refFrame : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

/-- Under the precondition the two programs end in one result. -/
theorem same : Cert.algebraic_KernelIdeal_ReferenceIdeal_pre_finite_no_bias (hKernelIdeal := Cert.KernelIdeal.Gen.facts)
    (hReferenceIdeal := Cert.ReferenceIdeal.Gen.facts) (hPre_finite_no_bias := Cert.Pre_finite_no_bias.Gen.facts) := by
  intro m g m' g' hpre hargs
  refine ⟨_, Cert.LogSoftmax.run_out m g, (θ_run _ _ _).mono (fun r h c => ⟨(h c).1.trans ?_, (h c).2⟩) (Cert.ReferenceIdeal.Value.run m' g')⟩
  obtain ⟨e0, e1, e2, e3⟩ := hargs c
  refine (Cert.LogSoftmax.ref_term m' c).trans ?_
  rw [e0, e1, e2, e3]
  exact Cert.LogSoftmax.results_eq _ m c (hpre c)

/-- All five claims hold. -/
theorem claim : Cert.Claim := ⟨Cert.Kernel.Gen.facts, Cert.KernelIdeal.Gen.facts, Cert.ReferenceIdeal.Gen.facts, Cert.Pre_finite_no_bias.Gen.facts,
  Cert.LogSoftmax.kernel_frame,
  fun m ρ _ => Cert.LogSoftmax.frame m ρ,
  fun m ρ _ => Cert.LogSoftmax.frame m ρ,
  refFrame, fun m ρ _ => refFrame m ρ trivial, trivial, same⟩

end Cert.Proof

end
